-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_channels" .f32 0x3C2AAAAB#32 ((96⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v183_0)) (v1 : (c : Dev Cert.KernelIdeal.nD) → Buf (Elt Ideal) ((c.tc : Thread Cert.KernelIdeal.nD Cert.KernelIdeal.τ).loc Cert.KernelIdeal.main_v183_1)) (v2 : (c : Dev Cert.KernelIdeal.nD) → Buf (Elt Ideal) ((c.tc : Thread Cert.KernelIdeal.nD Cert.KernelIdeal.τ).loc Cert.KernelIdeal.main_v177)) (v3 : (c : Dev Cert.KernelIdeal.nD) → Buf (Elt Ideal) ((c.tc : Thread Cert.KernelIdeal.nD Cert.KernelIdeal.τ).loc Cert.KernelIdeal.main_v178)) (v4 : (c : Dev Cert.KernelIdeal.nD) → Buf (Elt Ideal) ((c.tc : Thread Cert.KernelIdeal.nD Cert.KernelIdeal.τ).loc Cert.KernelIdeal.main_v183_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v183_0) = v0 c
          ∧ r.2.mem ((c.tc : Thread Cert.KernelIdeal.nD Cert.KernelIdeal.τ).loc Cert.KernelIdeal.main_v183_1) = v1 c
          ∧ r.2.mem ((c.tc : Thread Cert.KernelIdeal.nD Cert.KernelIdeal.τ).loc Cert.KernelIdeal.main_v177) = v2 c
          ∧ r.2.mem ((c.tc : Thread Cert.KernelIdeal.nD Cert.KernelIdeal.τ).loc Cert.KernelIdeal.main_v178) = v3 c
          ∧ r.2.mem ((c.tc : Thread Cert.KernelIdeal.nD Cert.KernelIdeal.τ).loc Cert.KernelIdeal.main_v183_2) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v337) = v0 c
          ∧ r.2.mem ((c.tc : Thread Cert.ReferenceIdeal.nD Cert.ReferenceIdeal.τ).loc Cert.ReferenceIdeal.main_v342) = v1 c
          ∧ r.2.mem ((c.tc : Thread Cert.ReferenceIdeal.nD Cert.ReferenceIdeal.τ).loc Cert.ReferenceIdeal.main_v330) = v2 c
          ∧ r.2.mem ((c.tc : Thread Cert.ReferenceIdeal.nD Cert.ReferenceIdeal.τ).loc Cert.ReferenceIdeal.main_v146) = v3 c
          ∧ r.2.mem ((c.tc : Thread Cert.ReferenceIdeal.nD Cert.ReferenceIdeal.τ).loc Cert.ReferenceIdeal.main_v333) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x96x384x384 : Shape := ⟨4, ![2, 96, 384, 384]⟩
abbrev S2x384x384x2 : Shape := ⟨4, ![2, 384, 384, 2]⟩
abbrev S4x2x384x384 : Shape := ⟨4, ![4, 2, 384, 384]⟩
abbrev S2x384x384 : Shape := ⟨3, ![2, 384, 384]⟩
abbrev S1x32x384x2 : Shape := ⟨4, ![1, 32, 384, 2]⟩
abbrev S4x1x32x384 : Shape := ⟨4, ![4, 1, 32, 384]⟩
abbrev S1x32x384 : Shape := ⟨3, ![1, 32, 384]⟩
abbrev S1x32x384x1 : Shape := ⟨4, ![1, 32, 384, 1]⟩
abbrev S32x384 : Shape := ⟨2, ![32, 384]⟩
abbrev S1x1x32x384 : Shape := ⟨4, ![1, 1, 32, 384]⟩
abbrev S4x294912 : Shape := ⟨2, ![4, 294912]⟩
abbrev S294912 : Shape := ⟨1, ![294912]⟩
abbrev S_ : Shape := ⟨0, ![]⟩
abbrev S1x294912 : Shape := ⟨2, ![1, 294912]⟩
abbrev S294912x1 : Shape := ⟨2, ![294912, 1]⟩
abbrev S1 : Shape := ⟨1, ![1]⟩
abbrev S1x1 : Shape := ⟨2, ![1, 1]⟩
abbrev S2x96x147456 : Shape := ⟨3, ![2, 96, 147456]⟩
abbrev S2x147456x96 : Shape := ⟨3, ![2, 147456, 96]⟩
abbrev S294912x96 : Shape := ⟨2, ![294912, 96]⟩
abbrev S2x1x384x384 : Shape := ⟨4, ![2, 1, 384, 384]⟩
abbrev S1x1x384x384 : Shape := ⟨4, ![1, 1, 384, 384]⟩

abbrev nBuf : Space → Nat
  | .hbm => 319
  | .vmem => 22
  | .smem => 0
  | _ => 0

abbrev hbmTy0_0 (i : Nat) : BufTy := match i % 128 with
  | 0 => ⟨S2x96x384x384, .f32⟩
  | 1 => ⟨S2x384x384x2, .f32⟩
  | 2 => ⟨S4x2x384x384, .i32⟩
  | 3 => ⟨S4x2x384x384, .i32⟩
  | 4 => ⟨S4x2x384x384, .f32⟩
  | 5 => ⟨S2x384x384, .i32⟩
  | 6 => ⟨S4x294912, .i32⟩
  | 7 => ⟨S4x294912, .i32⟩
  | 8 => ⟨S4x294912, .f32⟩
  | 9 => ⟨S294912, .i32⟩
  | 10 => ⟨S_, .i32⟩
  | 11 => ⟨S294912, .i32⟩
  | 12 => ⟨S1x294912, .i32⟩
  | 13 => ⟨S294912, .i32⟩
  | 14 => ⟨S1x294912, .i32⟩
  | 15 => ⟨S294912, .i32⟩
  | 16 => ⟨S_, .i32⟩
  | 17 => ⟨S294912, .i32⟩
  | 18 => ⟨S294912, .i1⟩
  | 19 => ⟨S_, .i32⟩
  | 20 => ⟨S294912, .i32⟩
  | 21 => ⟨S294912, .i32⟩
  | 22 => ⟨S294912, .i32⟩
  | 23 => ⟨S294912x1, .i32⟩
  | 24 => ⟨S294912, .i32⟩
  | 25 => ⟨S1x294912, .i32⟩
  | 26 => ⟨S294912, .i32⟩
  | 27 => ⟨S1x294912, .i32⟩
  | 28 => ⟨S294912, .i32⟩
  | 29 => ⟨S_, .i32⟩
  | 30 => ⟨S294912, .i32⟩
  | 31 => ⟨S294912, .i1⟩
  | 32 => ⟨S_, .i32⟩
  | 33 => ⟨S294912, .i32⟩
  | 34 => ⟨S294912, .i32⟩
  | 35 => ⟨S294912, .i32⟩
  | 36 => ⟨S294912x1, .i32⟩
  | 37 => ⟨S294912, .i32⟩
  | 38 => ⟨S1x294912, .i32⟩
  | 39 => ⟨S294912, .i32⟩
  | 40 => ⟨S1x294912, .i32⟩
  | 41 => ⟨S294912, .i32⟩
  | 42 => ⟨S_, .i32⟩
  | 43 => ⟨S294912, .i32⟩
  | 44 => ⟨S294912, .i1⟩
  | 45 => ⟨S_, .i32⟩
  | 46 => ⟨S294912, .i32⟩
  | 47 => ⟨S294912, .i32⟩
  | 48 => ⟨S294912, .i32⟩
  | 49 => ⟨S294912x1, .i32⟩
  | 50 => ⟨S294912, .i32⟩
  | 51 => ⟨S1x294912, .i32⟩
  | 52 => ⟨S294912, .i32⟩
  | 53 => ⟨S1x294912, .i32⟩
  | 54 => ⟨S294912, .i32⟩
  | 55 => ⟨S_, .i32⟩
  | 56 => ⟨S294912, .i32⟩
  | 57 => ⟨S294912, .i1⟩
  | 58 => ⟨S_, .i32⟩
  | 59 => ⟨S294912, .i32⟩
  | 60 => ⟨S294912, .i32⟩
  | 61 => ⟨S294912, .i32⟩
  | 62 => ⟨S294912x1, .i32⟩
  | 63 => ⟨S294912, .i32⟩
  | 64 => ⟨S_, .f32⟩
  | 65 => ⟨S294912, .f32⟩
  | 66 => ⟨S1x294912, .i32⟩
  | 67 => ⟨S294912, .i32⟩
  | 68 => ⟨S_, .i32⟩
  | 69 => ⟨S294912, .i32⟩
  | 70 => ⟨S294912, .i1⟩
  | 71 => ⟨S_, .i32⟩
  | 72 => ⟨S294912, .i32⟩
  | 73 => ⟨S294912, .i32⟩
  | 74 => ⟨S294912, .i32⟩
  | 75 => ⟨S294912x1, .i32⟩
  | 76 => ⟨S1, .i32⟩
  | 77 => ⟨S_, .i32⟩
  | 78 => ⟨S294912x1, .i32⟩
  | 79 => ⟨S294912x1, .i1⟩
  | 80 => ⟨S1x1, .i32⟩
  | 81 => ⟨S294912x1, .i32⟩
  | 82 => ⟨S294912x1, .i1⟩
  | 83 => ⟨S294912x1, .i1⟩
  | 84 => ⟨S_, .i1⟩
  | 85 => ⟨S294912, .i1⟩
  | 86 => ⟨S294912, .i32⟩
  | 87 => ⟨S_, .i32⟩
  | 88 => ⟨S294912, .i32⟩
  | 89 => ⟨S294912, .i32⟩
  | 90 => ⟨S294912, .i32⟩
  | 91 => ⟨S_, .i32⟩
  | 92 => ⟨S294912, .i32⟩
  | 93 => ⟨S294912, .i1⟩
  | 94 => ⟨S1x294912, .f32⟩
  | 95 => ⟨S294912, .f32⟩
  | 96 => ⟨S_, .f32⟩
  | 97 => ⟨S_, .f32⟩
  | 98 => ⟨S294912, .f32⟩
  | 99 => ⟨S294912, .f32⟩
  | 100 => ⟨S1x294912, .i32⟩
  | 101 => ⟨S294912, .i32⟩
  | 102 => ⟨S_, .i32⟩
  | 103 => ⟨S294912, .i32⟩
  | 104 => ⟨S294912, .i1⟩
  | 105 => ⟨S_, .i32⟩
  | 106 => ⟨S294912, .i32⟩
  | 107 => ⟨S294912, .i32⟩
  | 108 => ⟨S294912, .i32⟩
  | 109 => ⟨S294912x1, .i32⟩
  | 110 => ⟨S294912, .f32⟩
  | 111 => ⟨S1x294912, .i32⟩
  | 112 => ⟨S294912, .i32⟩
  | 113 => ⟨S_, .i32⟩
  | 114 => ⟨S294912, .i32⟩
  | 115 => ⟨S294912, .i1⟩
  | 116 => ⟨S_, .i32⟩
  | 117 => ⟨S294912, .i32⟩
  | 118 => ⟨S294912, .i32⟩
  | 119 => ⟨S294912, .i32⟩
  | 120 => ⟨S294912x1, .i32⟩
  | 121 => ⟨S1, .i32⟩
  | 122 => ⟨S_, .i32⟩
  | 123 => ⟨S294912x1, .i32⟩
  | 124 => ⟨S294912x1, .i1⟩
  | 125 => ⟨S1x1, .i32⟩
  | 126 => ⟨S294912x1, .i32⟩
  | 127 => ⟨S294912x1, .i1⟩
  | _ => ⟨S2x96x384x384, .f32⟩

abbrev hbmTy0_1 (i : Nat) : BufTy := match i % 128 with
  | 0 => ⟨S294912x1, .i1⟩
  | 1 => ⟨S_, .i1⟩
  | 2 => ⟨S294912, .i1⟩
  | 3 => ⟨S294912, .i32⟩
  | 4 => ⟨S_, .i32⟩
  | 5 => ⟨S294912, .i32⟩
  | 6 => ⟨S294912, .i32⟩
  | 7 => ⟨S294912, .i32⟩
  | 8 => ⟨S_, .i32⟩
  | 9 => ⟨S294912, .i32⟩
  | 10 => ⟨S294912, .i1⟩
  | 11 => ⟨S1x294912, .f32⟩
  | 12 => ⟨S294912, .f32⟩
  | 13 => ⟨S_, .f32⟩
  | 14 => ⟨S_, .f32⟩
  | 15 => ⟨S294912, .f32⟩
  | 16 => ⟨S294912, .f32⟩
  | 17 => ⟨S1x294912, .i32⟩
  | 18 => ⟨S294912, .i32⟩
  | 19 => ⟨S_, .i32⟩
  | 20 => ⟨S294912, .i32⟩
  | 21 => ⟨S294912, .i1⟩
  | 22 => ⟨S_, .i32⟩
  | 23 => ⟨S294912, .i32⟩
  | 24 => ⟨S294912, .i32⟩
  | 25 => ⟨S294912, .i32⟩
  | 26 => ⟨S294912x1, .i32⟩
  | 27 => ⟨S294912, .f32⟩
  | 28 => ⟨S1x294912, .i32⟩
  | 29 => ⟨S294912, .i32⟩
  | 30 => ⟨S_, .i32⟩
  | 31 => ⟨S294912, .i32⟩
  | 32 => ⟨S294912, .i1⟩
  | 33 => ⟨S_, .i32⟩
  | 34 => ⟨S294912, .i32⟩
  | 35 => ⟨S294912, .i32⟩
  | 36 => ⟨S294912, .i32⟩
  | 37 => ⟨S294912x1, .i32⟩
  | 38 => ⟨S1, .i32⟩
  | 39 => ⟨S_, .i32⟩
  | 40 => ⟨S294912x1, .i32⟩
  | 41 => ⟨S294912x1, .i1⟩
  | 42 => ⟨S1x1, .i32⟩
  | 43 => ⟨S294912x1, .i32⟩
  | 44 => ⟨S294912x1, .i1⟩
  | 45 => ⟨S294912x1, .i1⟩
  | 46 => ⟨S_, .i1⟩
  | 47 => ⟨S294912, .i1⟩
  | 48 => ⟨S294912, .i32⟩
  | 49 => ⟨S_, .i32⟩
  | 50 => ⟨S294912, .i32⟩
  | 51 => ⟨S294912, .i32⟩
  | 52 => ⟨S294912, .i32⟩
  | 53 => ⟨S_, .i32⟩
  | 54 => ⟨S294912, .i32⟩
  | 55 => ⟨S294912, .i1⟩
  | 56 => ⟨S1x294912, .f32⟩
  | 57 => ⟨S294912, .f32⟩
  | 58 => ⟨S_, .f32⟩
  | 59 => ⟨S_, .f32⟩
  | 60 => ⟨S294912, .f32⟩
  | 61 => ⟨S294912, .f32⟩
  | 62 => ⟨S1x294912, .i32⟩
  | 63 => ⟨S294912, .i32⟩
  | 64 => ⟨S_, .i32⟩
  | 65 => ⟨S294912, .i32⟩
  | 66 => ⟨S294912, .i1⟩
  | 67 => ⟨S_, .i32⟩
  | 68 => ⟨S294912, .i32⟩
  | 69 => ⟨S294912, .i32⟩
  | 70 => ⟨S294912, .i32⟩
  | 71 => ⟨S294912x1, .i32⟩
  | 72 => ⟨S294912, .f32⟩
  | 73 => ⟨S1x294912, .i32⟩
  | 74 => ⟨S294912, .i32⟩
  | 75 => ⟨S_, .i32⟩
  | 76 => ⟨S294912, .i32⟩
  | 77 => ⟨S294912, .i1⟩
  | 78 => ⟨S_, .i32⟩
  | 79 => ⟨S294912, .i32⟩
  | 80 => ⟨S294912, .i32⟩
  | 81 => ⟨S294912, .i32⟩
  | 82 => ⟨S294912x1, .i32⟩
  | 83 => ⟨S1, .i32⟩
  | 84 => ⟨S_, .i32⟩
  | 85 => ⟨S294912x1, .i32⟩
  | 86 => ⟨S294912x1, .i1⟩
  | 87 => ⟨S1x1, .i32⟩
  | 88 => ⟨S294912x1, .i32⟩
  | 89 => ⟨S294912x1, .i1⟩
  | 90 => ⟨S294912x1, .i1⟩
  | 91 => ⟨S_, .i1⟩
  | 92 => ⟨S294912, .i1⟩
  | 93 => ⟨S294912, .i32⟩
  | 94 => ⟨S_, .i32⟩
  | 95 => ⟨S294912, .i32⟩
  | 96 => ⟨S294912, .i32⟩
  | 97 => ⟨S294912, .i32⟩
  | 98 => ⟨S_, .i32⟩
  | 99 => ⟨S294912, .i32⟩
  | 100 => ⟨S294912, .i1⟩
  | 101 => ⟨S1x294912, .f32⟩
  | 102 => ⟨S294912, .f32⟩
  | 103 => ⟨S_, .f32⟩
  | 104 => ⟨S_, .f32⟩
  | 105 => ⟨S294912, .f32⟩
  | 106 => ⟨S294912, .f32⟩
  | 107 => ⟨S1x294912, .i32⟩
  | 108 => ⟨S294912, .i32⟩
  | 109 => ⟨S_, .i32⟩
  | 110 => ⟨S294912, .i32⟩
  | 111 => ⟨S294912, .i1⟩
  | 112 => ⟨S_, .i32⟩
  | 113 => ⟨S294912, .i32⟩
  | 114 => ⟨S294912, .i32⟩
  | 115 => ⟨S294912, .i32⟩
  | 116 => ⟨S294912x1, .i32⟩
  | 117 => ⟨S294912, .f32⟩
  | 118 => ⟨S2x96x147456, .f32⟩
  | 119 => ⟨S2x147456x96, .f32⟩
  | 120 => ⟨S294912x96, .f32⟩
  | 121 => ⟨S_, .f32⟩
  | 122 => ⟨S294912x96, .f32⟩
  | 123 => ⟨S1x294912, .i32⟩
  | 124 => ⟨S294912, .i32⟩
  | 125 => ⟨S294912x1, .f32⟩
  | 126 => ⟨S294912x96, .f32⟩
  | 127 => ⟨S294912x96, .f32⟩
  | _ => ⟨S2x96x384x384, .f32⟩

abbrev hbmTy0_2 (i : Nat) : BufTy := match i % 128 with
  | 0 => ⟨S_, .i32⟩
  | 1 => ⟨S294912, .i32⟩
  | 2 => ⟨S294912, .i1⟩
  | 3 => ⟨S_, .i32⟩
  | 4 => ⟨S294912, .i32⟩
  | 5 => ⟨S294912, .i32⟩
  | 6 => ⟨S294912, .i32⟩
  | 7 => ⟨S294912x1, .i32⟩
  | 8 => ⟨S294912x96, .f32⟩
  | 9 => ⟨S1x294912, .i32⟩
  | 10 => ⟨S294912, .i32⟩
  | 11 => ⟨S294912x1, .f32⟩
  | 12 => ⟨S294912x96, .f32⟩
  | 13 => ⟨S294912x96, .f32⟩
  | 14 => ⟨S_, .i32⟩
  | 15 => ⟨S294912, .i32⟩
  | 16 => ⟨S294912, .i1⟩
  | 17 => ⟨S_, .i32⟩
  | 18 => ⟨S294912, .i32⟩
  | 19 => ⟨S294912, .i32⟩
  | 20 => ⟨S294912, .i32⟩
  | 21 => ⟨S294912x1, .i32⟩
  | 22 => ⟨S294912x96, .f32⟩
  | 23 => ⟨S1x294912, .i32⟩
  | 24 => ⟨S294912, .i32⟩
  | 25 => ⟨S294912x1, .f32⟩
  | 26 => ⟨S294912x96, .f32⟩
  | 27 => ⟨S294912x96, .f32⟩
  | 28 => ⟨S_, .i32⟩
  | 29 => ⟨S294912, .i32⟩
  | 30 => ⟨S294912, .i1⟩
  | 31 => ⟨S_, .i32⟩
  | 32 => ⟨S294912, .i32⟩
  | 33 => ⟨S294912, .i32⟩
  | 34 => ⟨S294912, .i32⟩
  | 35 => ⟨S294912x1, .i32⟩
  | 36 => ⟨S294912x96, .f32⟩
  | 37 => ⟨S1x294912, .i32⟩
  | 38 => ⟨S294912, .i32⟩
  | 39 => ⟨S294912x1, .f32⟩
  | 40 => ⟨S294912x96, .f32⟩
  | 41 => ⟨S294912x96, .f32⟩
  | 42 => ⟨S_, .i32⟩
  | 43 => ⟨S294912, .i32⟩
  | 44 => ⟨S294912, .i1⟩
  | 45 => ⟨S_, .i32⟩
  | 46 => ⟨S294912, .i32⟩
  | 47 => ⟨S294912, .i32⟩
  | 48 => ⟨S294912, .i32⟩
  | 49 => ⟨S294912x1, .i32⟩
  | 50 => ⟨S294912x96, .f32⟩
  | 51 => ⟨S2x147456x96, .f32⟩
  | 52 => ⟨S2x96x147456, .f32⟩
  | 53 => ⟨S2x96x384x384, .f32⟩
  | 54 => ⟨S2x1x384x384, .i32⟩
  | 55 => ⟨S_, .f32⟩
  | 56 => ⟨S294912, .f32⟩
  | 57 => ⟨S294912, .f32⟩
  | 58 => ⟨S2x1x384x384, .f32⟩
  | 59 => ⟨S2x1x384x384, .f32⟩
  | 60 => ⟨S2x96x384x384, .f32⟩
  | 61 => ⟨S2x1x384x384, .f32⟩
  | 62 => ⟨S2x1x384x384, .f32⟩
  | _ => ⟨S2x96x384x384, .f32⟩

abbrev hbmTy (i : Nat) : BufTy := match i / 128 with
  | 0 => hbmTy0_0 i
  | 1 => hbmTy0_1 i
  | 2 => hbmTy0_2 i
  | _ => ⟨S2x96x384x384, .f32⟩

abbrev bufTy : (tb : Table) → Fin (tcTables nBuf tb) → BufTy
  | .hbm, ⟨i, _⟩ => hbmTy i
  | .local _ .vmem, ⟨0, _⟩ => ⟨S1x32x384x2, .f32⟩
  | .local _ .vmem, ⟨1, _⟩ => ⟨S1x32x384x2, .f32⟩
  | .local _ .vmem, ⟨2, _⟩ => ⟨S4x1x32x384, .i32⟩
  | .local _ .vmem, ⟨3, _⟩ => ⟨S4x1x32x384, .i32⟩
  | .local _ .vmem, ⟨4, _⟩ => ⟨S4x1x32x384, .i32⟩
  | .local _ .vmem, ⟨5, _⟩ => ⟨S4x1x32x384, .i32⟩
  | .local _ .vmem, ⟨6, _⟩ => ⟨S4x1x32x384, .f32⟩
  | .local _ .vmem, ⟨7, _⟩ => ⟨S4x1x32x384, .f32⟩
  | .local _ .vmem, ⟨8, _⟩ => ⟨S1x32x384, .i32⟩
  | .local _ .vmem, ⟨9, _⟩ => ⟨S1x32x384, .i32⟩
  | .local _ .vmem, ⟨10, _⟩ => ⟨S1x1x384x384, .f32⟩
  | .local _ .vmem, ⟨11, _⟩ => ⟨S1x1x384x384, .f32⟩
  | .local _ .vmem, ⟨12, _⟩ => ⟨S1x1x384x384, .f32⟩
  | .local _ .vmem, ⟨13, _⟩ => ⟨S1x1x384x384, .f32⟩
  | .local _ .vmem, ⟨14, _⟩ => ⟨S1x1x384x384, .f32⟩
  | .local _ .vmem, ⟨15, _⟩ => ⟨S1x1x384x384, .f32⟩
  | .local _ .vmem, ⟨16, _⟩ => ⟨S1x1x384x384, .f32⟩
  | .local _ .vmem, ⟨17, _⟩ => ⟨S1x1x384x384, .f32⟩
  | .local _ .vmem, ⟨18, _⟩ => ⟨S1x1x384x384, .f32⟩
  | .local _ .vmem, ⟨19, _⟩ => ⟨S1x1x384x384, .f32⟩
  | .local _ .vmem, ⟨20, _⟩ => ⟨S1x1x384x384, .f32⟩
  | .local _ .vmem, ⟨21, _⟩ => ⟨S1x1x384x384, .f32⟩
  | _, _ => ⟨S2x96x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_2 : Ref sig .tc := ⟨.hbm, 29, rfl⟩
abbrev main_v21 : Ref sig .tc := ⟨.hbm, 30, rfl⟩
abbrev main_v22 : Ref sig .tc := ⟨.hbm, 31, rfl⟩
abbrev main_c_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_4 : Ref sig .tc := ⟨.hbm, 42, rfl⟩
abbrev main_v32 : Ref sig .tc := ⟨.hbm, 43, rfl⟩
abbrev main_v33 : Ref sig .tc := ⟨.hbm, 44, rfl⟩
abbrev main_c_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c_6 : Ref sig .tc := ⟨.hbm, 55, rfl⟩
abbrev main_v43 : Ref sig .tc := ⟨.hbm, 56, rfl⟩
abbrev main_v44 : Ref sig .tc := ⟨.hbm, 57, rfl⟩
abbrev main_c_7 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_call0_c : Ref sig .tc := ⟨.hbm, 68, rfl⟩
abbrev main_call0_v0 : Ref sig .tc := ⟨.hbm, 69, rfl⟩
abbrev main_call0_v1 : Ref sig .tc := ⟨.hbm, 70, rfl⟩
abbrev main_call0_c_0 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_call0_v5 : Ref sig .tc := ⟨.hbm, 75, rfl⟩
abbrev main_call0_c_1 : Ref sig .tc := ⟨.hbm, 76, rfl⟩
abbrev main_call0_c_2 : Ref sig .tc := ⟨.hbm, 77, rfl⟩
abbrev main_call0_v6 : Ref sig .tc := ⟨.hbm, 78, rfl⟩
abbrev main_call0_v7 : Ref sig .tc := ⟨.hbm, 79, rfl⟩
abbrev main_call0_v8 : Ref sig .tc := ⟨.hbm, 80, rfl⟩
abbrev main_call0_v9 : Ref sig .tc := ⟨.hbm, 81, rfl⟩
abbrev main_call0_v10 : Ref sig .tc := ⟨.hbm, 82, rfl⟩
abbrev main_call0_v11 : Ref sig .tc := ⟨.hbm, 83, rfl⟩
abbrev main_call0_c_3 : Ref sig .tc := ⟨.hbm, 84, rfl⟩
abbrev main_call0_v12 : Ref sig .tc := ⟨.hbm, 85, rfl⟩
abbrev main_call0_v13 : Ref sig .tc := ⟨.hbm, 86, rfl⟩
abbrev main_call0_c_4 : Ref sig .tc := ⟨.hbm, 87, rfl⟩
abbrev main_call0_v14 : Ref sig .tc := ⟨.hbm, 88, rfl⟩
abbrev main_v53 : Ref sig .tc := ⟨.hbm, 89, rfl⟩
abbrev main_v54 : Ref sig .tc := ⟨.hbm, 90, rfl⟩
abbrev main_c_8 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_9 : Ref sig .tc := ⟨.hbm, 96, rfl⟩
abbrev main_call1_v0 : Ref sig .tc := ⟨.hbm, 97, rfl⟩
abbrev main_call1_v1 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_c_10 : Ref sig .tc := ⟨.hbm, 102, rfl⟩
abbrev main_v62 : Ref sig .tc := ⟨.hbm, 103, rfl⟩
abbrev main_v63 : Ref sig .tc := ⟨.hbm, 104, rfl⟩
abbrev main_c_11 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_call2_c : Ref sig .tc := ⟨.hbm, 113, rfl⟩
abbrev main_call2_v0 : Ref sig .tc := ⟨.hbm, 114, rfl⟩
abbrev main_call2_v1 : Ref sig .tc := ⟨.hbm, 115, rfl⟩
abbrev main_call2_c_0 : Ref sig .tc := ⟨.hbm, 116, rfl⟩
abbrev main_call2_v2 : Ref sig .tc := ⟨.hbm, 117, rfl⟩
abbrev main_call2_v3 : Ref sig .tc := ⟨.hbm, 118, rfl⟩
abbrev main_call2_v4 : Ref sig .tc := ⟨.hbm, 119, rfl⟩
abbrev main_call2_v5 : Ref sig .tc := ⟨.hbm, 120, rfl⟩
abbrev main_call2_c_1 : Ref sig .tc := ⟨.hbm, 121, rfl⟩
abbrev main_call2_c_2 : Ref sig .tc := ⟨.hbm, 122, rfl⟩
abbrev main_call2_v6 : Ref sig .tc := ⟨.hbm, 123, rfl⟩
abbrev main_call2_v7 : Ref sig .tc := ⟨.hbm, 124, rfl⟩
abbrev main_call2_v8 : Ref sig .tc := ⟨.hbm, 125, rfl⟩
abbrev main_call2_v9 : Ref sig .tc := ⟨.hbm, 126, rfl⟩
abbrev main_call2_v10 : Ref sig .tc := ⟨.hbm, 127, rfl⟩
abbrev main_call2_v11 : Ref sig .tc := ⟨.hbm, 128, rfl⟩
abbrev main_call2_c_3 : Ref sig .tc := ⟨.hbm, 129, rfl⟩
abbrev main_call2_v12 : Ref sig .tc := ⟨.hbm, 130, rfl⟩
abbrev main_call2_v13 : Ref sig .tc := ⟨.hbm, 131, rfl⟩
abbrev main_call2_c_4 : Ref sig .tc := ⟨.hbm, 132, rfl⟩
abbrev main_call2_v14 : Ref sig .tc := ⟨.hbm, 133, rfl⟩
abbrev main_v71 : Ref sig .tc := ⟨.hbm, 134, rfl⟩
abbrev main_v72 : Ref sig .tc := ⟨.hbm, 135, rfl⟩
abbrev main_c_12 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_cst_13 : Ref sig .tc := ⟨.hbm, 141, rfl⟩
abbrev main_call3_v0 : Ref sig .tc := ⟨.hbm, 142, rfl⟩
abbrev main_call3_v1 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_c_14 : Ref sig .tc := ⟨.hbm, 147, rfl⟩
abbrev main_v80 : Ref sig .tc := ⟨.hbm, 148, rfl⟩
abbrev main_v81 : Ref sig .tc := ⟨.hbm, 149, rfl⟩
abbrev main_c_15 : Ref sig .tc := ⟨.hbm, 150, rfl⟩
abbrev main_v82 : Ref sig .tc := ⟨.hbm, 151, rfl⟩
abbrev main_v83 : Ref sig .tc := ⟨.hbm, 152, rfl⟩
abbrev main_v84 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_call4_c : Ref sig .tc := ⟨.hbm, 158, rfl⟩
abbrev main_call4_v0 : Ref sig .tc := ⟨.hbm, 159, rfl⟩
abbrev main_call4_v1 : Ref sig .tc := ⟨.hbm, 160, rfl⟩
abbrev main_call4_c_0 : Ref sig .tc := ⟨.hbm, 161, rfl⟩
abbrev main_call4_v2 : Ref sig .tc := ⟨.hbm, 162, rfl⟩
abbrev main_call4_v3 : Ref sig .tc := ⟨.hbm, 163, rfl⟩
abbrev main_call4_v4 : Ref sig .tc := ⟨.hbm, 164, rfl⟩
abbrev main_call4_v5 : Ref sig .tc := ⟨.hbm, 165, rfl⟩
abbrev main_call4_c_1 : Ref sig .tc := ⟨.hbm, 166, rfl⟩
abbrev main_call4_c_2 : Ref sig .tc := ⟨.hbm, 167, rfl⟩
abbrev main_call4_v6 : Ref sig .tc := ⟨.hbm, 168, rfl⟩
abbrev main_call4_v7 : Ref sig .tc := ⟨.hbm, 169, rfl⟩
abbrev main_call4_v8 : Ref sig .tc := ⟨.hbm, 170, rfl⟩
abbrev main_call4_v9 : Ref sig .tc := ⟨.hbm, 171, rfl⟩
abbrev main_call4_v10 : Ref sig .tc := ⟨.hbm, 172, rfl⟩
abbrev main_call4_v11 : Ref sig .tc := ⟨.hbm, 173, rfl⟩
abbrev main_call4_c_3 : Ref sig .tc := ⟨.hbm, 174, rfl⟩
abbrev main_call4_v12 : Ref sig .tc := ⟨.hbm, 175, rfl⟩
abbrev main_call4_v13 : Ref sig .tc := ⟨.hbm, 176, rfl⟩
abbrev main_call4_c_4 : Ref sig .tc := ⟨.hbm, 177, rfl⟩
abbrev main_call4_v14 : Ref sig .tc := ⟨.hbm, 178, rfl⟩
abbrev main_v89 : Ref sig .tc := ⟨.hbm, 179, rfl⟩
abbrev main_v90 : Ref sig .tc := ⟨.hbm, 180, rfl⟩
abbrev main_c_16 : Ref sig .tc := ⟨.hbm, 181, rfl⟩
abbrev main_v91 : Ref sig .tc := ⟨.hbm, 182, rfl⟩
abbrev main_v92 : Ref sig .tc := ⟨.hbm, 183, rfl⟩
abbrev main_v93 : Ref sig .tc := ⟨.hbm, 184, rfl⟩
abbrev main_v94 : Ref sig .tc := ⟨.hbm, 185, rfl⟩
abbrev main_cst_17 : Ref sig .tc := ⟨.hbm, 186, rfl⟩
abbrev main_call5_v0 : Ref sig .tc := ⟨.hbm, 187, rfl⟩
abbrev main_call5_v1 : Ref sig .tc := ⟨.hbm, 188, rfl⟩
abbrev main_v95 : Ref sig .tc := ⟨.hbm, 189, rfl⟩
abbrev main_v96 : Ref sig .tc := ⟨.hbm, 190, rfl⟩
abbrev main_v97 : Ref sig .tc := ⟨.hbm, 191, rfl⟩
abbrev main_c_18 : Ref sig .tc := ⟨.hbm, 192, rfl⟩
abbrev main_v98 : Ref sig .tc := ⟨.hbm, 193, rfl⟩
abbrev main_v99 : Ref sig .tc := ⟨.hbm, 194, rfl⟩
abbrev main_c_19 : Ref sig .tc := ⟨.hbm, 195, rfl⟩
abbrev main_v100 : Ref sig .tc := ⟨.hbm, 196, rfl⟩
abbrev main_v101 : Ref sig .tc := ⟨.hbm, 197, rfl⟩
abbrev main_v102 : Ref sig .tc := ⟨.hbm, 198, rfl⟩
abbrev main_v103 : Ref sig .tc := ⟨.hbm, 199, rfl⟩
abbrev main_v104 : Ref sig .tc := ⟨.hbm, 200, rfl⟩
abbrev main_v105 : Ref sig .tc := ⟨.hbm, 201, rfl⟩
abbrev main_v106 : Ref sig .tc := ⟨.hbm, 202, rfl⟩
abbrev main_call6_c : Ref sig .tc := ⟨.hbm, 203, rfl⟩
abbrev main_call6_v0 : Ref sig .tc := ⟨.hbm, 204, rfl⟩
abbrev main_call6_v1 : Ref sig .tc := ⟨.hbm, 205, rfl⟩
abbrev main_call6_c_0 : Ref sig .tc := ⟨.hbm, 206, rfl⟩
abbrev main_call6_v2 : Ref sig .tc := ⟨.hbm, 207, rfl⟩
abbrev main_call6_v3 : Ref sig .tc := ⟨.hbm, 208, rfl⟩
abbrev main_call6_v4 : Ref sig .tc := ⟨.hbm, 209, rfl⟩
abbrev main_call6_v5 : Ref sig .tc := ⟨.hbm, 210, rfl⟩
abbrev main_call6_c_1 : Ref sig .tc := ⟨.hbm, 211, rfl⟩
abbrev main_call6_c_2 : Ref sig .tc := ⟨.hbm, 212, rfl⟩
abbrev main_call6_v6 : Ref sig .tc := ⟨.hbm, 213, rfl⟩
abbrev main_call6_v7 : Ref sig .tc := ⟨.hbm, 214, rfl⟩
abbrev main_call6_v8 : Ref sig .tc := ⟨.hbm, 215, rfl⟩
abbrev main_call6_v9 : Ref sig .tc := ⟨.hbm, 216, rfl⟩
abbrev main_call6_v10 : Ref sig .tc := ⟨.hbm, 217, rfl⟩
abbrev main_call6_v11 : Ref sig .tc := ⟨.hbm, 218, rfl⟩
abbrev main_call6_c_3 : Ref sig .tc := ⟨.hbm, 219, rfl⟩
abbrev main_call6_v12 : Ref sig .tc := ⟨.hbm, 220, rfl⟩
abbrev main_call6_v13 : Ref sig .tc := ⟨.hbm, 221, rfl⟩
abbrev main_call6_c_4 : Ref sig .tc := ⟨.hbm, 222, rfl⟩
abbrev main_call6_v14 : Ref sig .tc := ⟨.hbm, 223, rfl⟩
abbrev main_v107 : Ref sig .tc := ⟨.hbm, 224, rfl⟩
abbrev main_v108 : Ref sig .tc := ⟨.hbm, 225, rfl⟩
abbrev main_c_20 : Ref sig .tc := ⟨.hbm, 226, rfl⟩
abbrev main_v109 : Ref sig .tc := ⟨.hbm, 227, rfl⟩
abbrev main_v110 : Ref sig .tc := ⟨.hbm, 228, rfl⟩
abbrev main_v111 : Ref sig .tc := ⟨.hbm, 229, rfl⟩
abbrev main_v112 : Ref sig .tc := ⟨.hbm, 230, rfl⟩
abbrev main_cst_21 : Ref sig .tc := ⟨.hbm, 231, rfl⟩
abbrev main_call7_v0 : Ref sig .tc := ⟨.hbm, 232, rfl⟩
abbrev main_call7_v1 : Ref sig .tc := ⟨.hbm, 233, rfl⟩
abbrev main_v113 : Ref sig .tc := ⟨.hbm, 234, rfl⟩
abbrev main_v114 : Ref sig .tc := ⟨.hbm, 235, rfl⟩
abbrev main_v115 : Ref sig .tc := ⟨.hbm, 236, rfl⟩
abbrev main_c_22 : Ref sig .tc := ⟨.hbm, 237, rfl⟩
abbrev main_v116 : Ref sig .tc := ⟨.hbm, 238, rfl⟩
abbrev main_v117 : Ref sig .tc := ⟨.hbm, 239, rfl⟩
abbrev main_c_23 : Ref sig .tc := ⟨.hbm, 240, rfl⟩
abbrev main_v118 : Ref sig .tc := ⟨.hbm, 241, rfl⟩
abbrev main_v119 : Ref sig .tc := ⟨.hbm, 242, rfl⟩
abbrev main_v120 : Ref sig .tc := ⟨.hbm, 243, rfl⟩
abbrev main_v121 : Ref sig .tc := ⟨.hbm, 244, rfl⟩
abbrev main_v122 : Ref sig .tc := ⟨.hbm, 245, rfl⟩
abbrev main_v123 : Ref sig .tc := ⟨.hbm, 246, rfl⟩
abbrev main_v124 : Ref sig .tc := ⟨.hbm, 247, rfl⟩
abbrev main_v125 : Ref sig .tc := ⟨.hbm, 248, rfl⟩
abbrev main_cst_24 : Ref sig .tc := ⟨.hbm, 249, rfl⟩
abbrev main_v126 : Ref sig .tc := ⟨.hbm, 250, rfl⟩
abbrev main_v127 : Ref sig .tc := ⟨.hbm, 251, rfl⟩
abbrev main_v128 : Ref sig .tc := ⟨.hbm, 252, rfl⟩
abbrev main_v129 : Ref sig .tc := ⟨.hbm, 253, rfl⟩
abbrev main_v130 : Ref sig .tc := ⟨.hbm, 254, rfl⟩
abbrev main_v131 : Ref sig .tc := ⟨.hbm, 255, rfl⟩
abbrev main_c_25 : Ref sig .tc := ⟨.hbm, 256, rfl⟩
abbrev main_v132 : Ref sig .tc := ⟨.hbm, 257, rfl⟩
abbrev main_v133 : Ref sig .tc := ⟨.hbm, 258, rfl⟩
abbrev main_c_26 : Ref sig .tc := ⟨.hbm, 259, rfl⟩
abbrev main_v134 : Ref sig .tc := ⟨.hbm, 260, rfl⟩
abbrev main_v135 : Ref sig .tc := ⟨.hbm, 261, rfl⟩
abbrev main_v136 : Ref sig .tc := ⟨.hbm, 262, rfl⟩
abbrev main_v137 : Ref sig .tc := ⟨.hbm, 263, rfl⟩
abbrev main_v138 : Ref sig .tc := ⟨.hbm, 264, rfl⟩
abbrev main_v139 : Ref sig .tc := ⟨.hbm, 265, rfl⟩
abbrev main_v140 : Ref sig .tc := ⟨.hbm, 266, rfl⟩
abbrev main_v141 : Ref sig .tc := ⟨.hbm, 267, rfl⟩
abbrev main_v142 : Ref sig .tc := ⟨.hbm, 268, rfl⟩
abbrev main_v143 : Ref sig .tc := ⟨.hbm, 269, rfl⟩
abbrev main_c_27 : Ref sig .tc := ⟨.hbm, 270, rfl⟩
abbrev main_v144 : Ref sig .tc := ⟨.hbm, 271, rfl⟩
abbrev main_v145 : Ref sig .tc := ⟨.hbm, 272, rfl⟩
abbrev main_c_28 : Ref sig .tc := ⟨.hbm, 273, rfl⟩
abbrev main_v146 : Ref sig .tc := ⟨.hbm, 274, rfl⟩
abbrev main_v147 : Ref sig .tc := ⟨.hbm, 275, rfl⟩
abbrev main_v148 : Ref sig .tc := ⟨.hbm, 276, rfl⟩
abbrev main_v149 : Ref sig .tc := ⟨.hbm, 277, rfl⟩
abbrev main_v150 : Ref sig .tc := ⟨.hbm, 278, rfl⟩
abbrev main_v151 : Ref sig .tc := ⟨.hbm, 279, rfl⟩
abbrev main_v152 : Ref sig .tc := ⟨.hbm, 280, rfl⟩
abbrev main_v153 : Ref sig .tc := ⟨.hbm, 281, rfl⟩
abbrev main_v154 : Ref sig .tc := ⟨.hbm, 282, rfl⟩
abbrev main_v155 : Ref sig .tc := ⟨.hbm, 283, rfl⟩
abbrev main_c_29 : Ref sig .tc := ⟨.hbm, 284, rfl⟩
abbrev main_v156 : Ref sig .tc := ⟨.hbm, 285, rfl⟩
abbrev main_v157 : Ref sig .tc := ⟨.hbm, 286, rfl⟩
abbrev main_c_30 : Ref sig .tc := ⟨.hbm, 287, rfl⟩
abbrev main_v158 : Ref sig .tc := ⟨.hbm, 288, rfl⟩
abbrev main_v159 : Ref sig .tc := ⟨.hbm, 289, rfl⟩
abbrev main_v160 : Ref sig .tc := ⟨.hbm, 290, rfl⟩
abbrev main_v161 : Ref sig .tc := ⟨.hbm, 291, rfl⟩
abbrev main_v162 : Ref sig .tc := ⟨.hbm, 292, rfl⟩
abbrev main_v163 : Ref sig .tc := ⟨.hbm, 293, rfl⟩
abbrev main_v164 : Ref sig .tc := ⟨.hbm, 294, rfl⟩
abbrev main_v165 : Ref sig .tc := ⟨.hbm, 295, rfl⟩
abbrev main_v166 : Ref sig .tc := ⟨.hbm, 296, rfl⟩
abbrev main_v167 : Ref sig .tc := ⟨.hbm, 297, rfl⟩
abbrev main_c_31 : Ref sig .tc := ⟨.hbm, 298, rfl⟩
abbrev main_v168 : Ref sig .tc := ⟨.hbm, 299, rfl⟩
abbrev main_v169 : Ref sig .tc := ⟨.hbm, 300, rfl⟩
abbrev main_c_32 : Ref sig .tc := ⟨.hbm, 301, rfl⟩
abbrev main_v170 : Ref sig .tc := ⟨.hbm, 302, rfl⟩
abbrev main_v171 : Ref sig .tc := ⟨.hbm, 303, rfl⟩
abbrev main_v172 : Ref sig .tc := ⟨.hbm, 304, rfl⟩
abbrev main_v173 : Ref sig .tc := ⟨.hbm, 305, rfl⟩
abbrev main_v174 : Ref sig .tc := ⟨.hbm, 306, rfl⟩
abbrev main_v175 : Ref sig .tc := ⟨.hbm, 307, rfl⟩
abbrev main_v176 : Ref sig .tc := ⟨.hbm, 308, rfl⟩
abbrev main_v177 : Ref sig .tc := ⟨.hbm, 309, rfl⟩
abbrev main_v178 : Ref sig .tc := ⟨.hbm, 310, rfl⟩
abbrev main_cst_33 : Ref sig .tc := ⟨.hbm, 311, rfl⟩
abbrev main_v179 : Ref sig .tc := ⟨.hbm, 312, rfl⟩
abbrev main_v180 : Ref sig .tc := ⟨.hbm, 313, rfl⟩
abbrev main_v181 : Ref sig .tc := ⟨.hbm, 314, rfl⟩
abbrev main_v182 : Ref sig .tc := ⟨.hbm, 315, rfl⟩
abbrev main_v183_0 : Ref sig .tc := ⟨.hbm, 316, rfl⟩
abbrev main_v183_1 : Ref sig .tc := ⟨.hbm, 317, rfl⟩
abbrev main_v183_2 : Ref sig .tc := ⟨.hbm, 318, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨2, ![2, 12], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x32x384x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1x32x384 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1x32x384 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x1x32x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x384 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![2, 96], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x1x384x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x384x384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x384x384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x384x384 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1x384x384 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1x384x384 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]
-- ==== KernelIdeal.lean ====
variable {F : FTy → Type} [FloatOps F] [Named F]
def κ : String → Option EReal := fun
  | "inv_channels" => some ((96⁻¹ : ℝ) : EReal)
  | _ => none
-- ==== ReferenceIdeal.lean ====
abbrev S2x96x384x384 : Shape := ⟨4, ![2, 96, 384, 384]⟩
abbrev S2x384x384x2 : Shape := ⟨4, ![2, 384, 384, 2]⟩
abbrev S384 : Shape := ⟨1, ![384]⟩
abbrev S384x384 : Shape := ⟨2, ![384, 384]⟩
abbrev S1x384x384 : Shape := ⟨3, ![1, 384, 384]⟩
abbrev S2x384x384 : Shape := ⟨3, ![2, 384, 384]⟩
abbrev S2x384x384x1 : Shape := ⟨4, ![2, 384, 384, 1]⟩
abbrev S_ : Shape := ⟨0, ![]⟩
abbrev S2 : Shape := ⟨1, ![2]⟩
abbrev S2x1x1 : Shape := ⟨3, ![2, 1, 1]⟩
abbrev S294912 : Shape := ⟨1, ![294912]⟩
abbrev S294912x1 : Shape := ⟨2, ![294912, 1]⟩
abbrev S2x1x384x384 : Shape := ⟨4, ![2, 1, 384, 384]⟩
abbrev S192 : Shape := ⟨1, ![192]⟩
abbrev S2x96x1x1 : Shape := ⟨4, ![2, 96, 1, 1]⟩
abbrev S1 : Shape := ⟨1, ![1]⟩
abbrev S1x1 : Shape := ⟨2, ![1, 1]⟩
abbrev S28311552 : Shape := ⟨1, ![28311552]⟩
abbrev S28311552x1 : Shape := ⟨2, ![28311552, 1]⟩

abbrev nBuf : Space → Nat
  | .hbm => 518
  | .vmem => 0
  | .smem => 0
  | _ => 0

abbrev hbmTy0_0 (i : Nat) : BufTy := match i % 128 with
  | 0 => ⟨S2x96x384x384, .f32⟩
  | 1 => ⟨S2x384x384x2, .f32⟩
  | 2 => ⟨S384, .f32⟩
  | 3 => ⟨S384, .f32⟩
  | 4 => ⟨S384x384, .f32⟩
  | 5 => ⟨S384x384, .f32⟩
  | 6 => ⟨S1x384x384, .f32⟩
  | 7 => ⟨S2x384x384, .f32⟩
  | 8 => ⟨S1x384x384, .f32⟩
  | 9 => ⟨S2x384x384, .f32⟩
  | 10 => ⟨S2x384x384x1, .f32⟩
  | 11 => ⟨S2x384x384, .f32⟩
  | 12 => ⟨S2x384x384, .f32⟩
  | 13 => ⟨S2x384x384x1, .f32⟩
  | 14 => ⟨S2x384x384, .f32⟩
  | 15 => ⟨S2x384x384, .f32⟩
  | 16 => ⟨S2x384x384x1, .f32⟩
  | 17 => ⟨S2x384x384, .f32⟩
  | 18 => ⟨S2x384x384, .f32⟩
  | 19 => ⟨S2x384x384x1, .f32⟩
  | 20 => ⟨S2x384x384, .f32⟩
  | 21 => ⟨S2x384x384, .f32⟩
  | 22 => ⟨S2x384x384, .f32⟩
  | 23 => ⟨S2x384x384, .f32⟩
  | 24 => ⟨S_, .f32⟩
  | 25 => ⟨S2x384x384, .f32⟩
  | 26 => ⟨S2x384x384, .f32⟩
  | 27 => ⟨S2x384x384, .i32⟩
  | 28 => ⟨S2x384x384, .f32⟩
  | 29 => ⟨S2x384x384, .i32⟩
  | 30 => ⟨S2x384x384, .f32⟩
  | 31 => ⟨S2x384x384, .i32⟩
  | 32 => ⟨S_, .i32⟩
  | 33 => ⟨S2x384x384, .i32⟩
  | 34 => ⟨S2x384x384, .i32⟩
  | 35 => ⟨S_, .i32⟩
  | 36 => ⟨S2x384x384, .i32⟩
  | 37 => ⟨S2x384x384, .i32⟩
  | 38 => ⟨S2x384x384, .f32⟩
  | 39 => ⟨S2x384x384, .f32⟩
  | 40 => ⟨S2x384x384, .f32⟩
  | 41 => ⟨S2x384x384, .f32⟩
  | 42 => ⟨S2x384x384, .f32⟩
  | 43 => ⟨S2x384x384, .f32⟩
  | 44 => ⟨S2x384x384, .f32⟩
  | 45 => ⟨S2x384x384, .f32⟩
  | 46 => ⟨S2x384x384, .f32⟩
  | 47 => ⟨S2x384x384, .f32⟩
  | 48 => ⟨S2x384x384, .f32⟩
  | 49 => ⟨S2x384x384, .f32⟩
  | 50 => ⟨S2x384x384, .f32⟩
  | 51 => ⟨S2x384x384, .f32⟩
  | 52 => ⟨S2x384x384, .f32⟩
  | 53 => ⟨S2x384x384, .f32⟩
  | 54 => ⟨S2x384x384, .f32⟩
  | 55 => ⟨S2x384x384, .f32⟩
  | 56 => ⟨S2x384x384, .f32⟩
  | 57 => ⟨S2x384x384, .f32⟩
  | 58 => ⟨S2, .i32⟩
  | 59 => ⟨S2x1x1, .i32⟩
  | 60 => ⟨S_, .i32⟩
  | 61 => ⟨S2x1x1, .i32⟩
  | 62 => ⟨S2x1x1, .i32⟩
  | 63 => ⟨S2x384x384, .i32⟩
  | 64 => ⟨S_, .i32⟩
  | 65 => ⟨S_, .i32⟩
  | 66 => ⟨S_, .i32⟩
  | 67 => ⟨S2x384x384, .i32⟩
  | 68 => ⟨S2x384x384, .i32⟩
  | 69 => ⟨S_, .i32⟩
  | 70 => ⟨S2x384x384, .i32⟩
  | 71 => ⟨S2x384x384, .i32⟩
  | 72 => ⟨S_, .i32⟩
  | 73 => ⟨S_, .i32⟩
  | 74 => ⟨S_, .i32⟩
  | 75 => ⟨S2x384x384, .i32⟩
  | 76 => ⟨S2x384x384, .i32⟩
  | 77 => ⟨S_, .i32⟩
  | 78 => ⟨S2x384x384, .i32⟩
  | 79 => ⟨S2x384x384, .i32⟩
  | 80 => ⟨S_, .i32⟩
  | 81 => ⟨S_, .i32⟩
  | 82 => ⟨S_, .i32⟩
  | 83 => ⟨S2x384x384, .i32⟩
  | 84 => ⟨S2x384x384, .i32⟩
  | 85 => ⟨S_, .i32⟩
  | 86 => ⟨S2x384x384, .i32⟩
  | 87 => ⟨S2x384x384, .i32⟩
  | 88 => ⟨S_, .i32⟩
  | 89 => ⟨S_, .i32⟩
  | 90 => ⟨S_, .i32⟩
  | 91 => ⟨S2x384x384, .i32⟩
  | 92 => ⟨S2x384x384, .i32⟩
  | 93 => ⟨S_, .i32⟩
  | 94 => ⟨S2x384x384, .i32⟩
  | 95 => ⟨S2x384x384, .i32⟩
  | 96 => ⟨S_, .i32⟩
  | 97 => ⟨S2x384x384, .i32⟩
  | 98 => ⟨S2x384x384, .i1⟩
  | 99 => ⟨S_, .i32⟩
  | 100 => ⟨S2x384x384, .i32⟩
  | 101 => ⟨S2x384x384, .i1⟩
  | 102 => ⟨S2x384x384, .i1⟩
  | 103 => ⟨S_, .i32⟩
  | 104 => ⟨S2x384x384, .i32⟩
  | 105 => ⟨S2x384x384, .i1⟩
  | 106 => ⟨S2x384x384, .i1⟩
  | 107 => ⟨S_, .i32⟩
  | 108 => ⟨S2x384x384, .i32⟩
  | 109 => ⟨S2x384x384, .i1⟩
  | 110 => ⟨S2x384x384, .i1⟩
  | 111 => ⟨S_, .i32⟩
  | 112 => ⟨S2x384x384, .i32⟩
  | 113 => ⟨S2x384x384, .i32⟩
  | 114 => ⟨S2x384x384, .i32⟩
  | 115 => ⟨S_, .i32⟩
  | 116 => ⟨S2x384x384, .i32⟩
  | 117 => ⟨S2x384x384, .i32⟩
  | 118 => ⟨S2x384x384, .i32⟩
  | 119 => ⟨S_, .i32⟩
  | 120 => ⟨S2x384x384, .i32⟩
  | 121 => ⟨S2x384x384, .i32⟩
  | 122 => ⟨S2x384x384, .i32⟩
  | 123 => ⟨S_, .i32⟩
  | 124 => ⟨S2x384x384, .i32⟩
  | 125 => ⟨S2x384x384, .i32⟩
  | 126 => ⟨S2x384x384, .i32⟩
  | 127 => ⟨S2x384x384, .i32⟩
  | _ => ⟨S2x96x384x384, .f32⟩

abbrev hbmTy0_1 (i : Nat) : BufTy := match i % 128 with
  | 0 => ⟨S2x384x384, .i32⟩
  | 1 => ⟨S2x384x384, .i32⟩
  | 2 => ⟨S2x384x384, .i32⟩
  | 3 => ⟨S_, .i32⟩
  | 4 => ⟨S294912, .i32⟩
  | 5 => ⟨S_, .f32⟩
  | 6 => ⟨S2x384x384, .f32⟩
  | 7 => ⟨S2x384x384, .i1⟩
  | 8 => ⟨S2x384x384, .i1⟩
  | 9 => ⟨S_, .i32⟩
  | 10 => ⟨S2x384x384, .i32⟩
  | 11 => ⟨S2x384x384, .i32⟩
  | 12 => ⟨S294912, .i32⟩
  | 13 => ⟨S294912, .i32⟩
  | 14 => ⟨S_, .i32⟩
  | 15 => ⟨S294912, .i32⟩
  | 16 => ⟨S294912, .i1⟩
  | 17 => ⟨S_, .i32⟩
  | 18 => ⟨S294912, .i32⟩
  | 19 => ⟨S294912, .i32⟩
  | 20 => ⟨S294912, .i32⟩
  | 21 => ⟨S294912x1, .i32⟩
  | 22 => ⟨S294912, .i32⟩
  | 23 => ⟨S_, .f32⟩
  | 24 => ⟨S2x384x384, .f32⟩
  | 25 => ⟨S2x384x384, .i1⟩
  | 26 => ⟨S2x384x384, .i1⟩
  | 27 => ⟨S_, .i32⟩
  | 28 => ⟨S2x384x384, .i32⟩
  | 29 => ⟨S2x384x384, .i32⟩
  | 30 => ⟨S294912, .i32⟩
  | 31 => ⟨S294912, .i32⟩
  | 32 => ⟨S_, .i32⟩
  | 33 => ⟨S294912, .i32⟩
  | 34 => ⟨S294912, .i1⟩
  | 35 => ⟨S_, .i32⟩
  | 36 => ⟨S294912, .i32⟩
  | 37 => ⟨S294912, .i32⟩
  | 38 => ⟨S294912, .i32⟩
  | 39 => ⟨S294912x1, .i32⟩
  | 40 => ⟨S294912, .i32⟩
  | 41 => ⟨S_, .f32⟩
  | 42 => ⟨S2x384x384, .f32⟩
  | 43 => ⟨S2x384x384, .i1⟩
  | 44 => ⟨S2x384x384, .i1⟩
  | 45 => ⟨S_, .i32⟩
  | 46 => ⟨S2x384x384, .i32⟩
  | 47 => ⟨S2x384x384, .i32⟩
  | 48 => ⟨S294912, .i32⟩
  | 49 => ⟨S294912, .i32⟩
  | 50 => ⟨S_, .i32⟩
  | 51 => ⟨S294912, .i32⟩
  | 52 => ⟨S294912, .i1⟩
  | 53 => ⟨S_, .i32⟩
  | 54 => ⟨S294912, .i32⟩
  | 55 => ⟨S294912, .i32⟩
  | 56 => ⟨S294912, .i32⟩
  | 57 => ⟨S294912x1, .i32⟩
  | 58 => ⟨S294912, .i32⟩
  | 59 => ⟨S_, .f32⟩
  | 60 => ⟨S2x384x384, .f32⟩
  | 61 => ⟨S2x384x384, .i1⟩
  | 62 => ⟨S2x384x384, .i1⟩
  | 63 => ⟨S_, .i32⟩
  | 64 => ⟨S2x384x384, .i32⟩
  | 65 => ⟨S2x384x384, .i32⟩
  | 66 => ⟨S294912, .i32⟩
  | 67 => ⟨S294912, .i32⟩
  | 68 => ⟨S_, .i32⟩
  | 69 => ⟨S294912, .i32⟩
  | 70 => ⟨S294912, .i1⟩
  | 71 => ⟨S_, .i32⟩
  | 72 => ⟨S294912, .i32⟩
  | 73 => ⟨S294912, .i32⟩
  | 74 => ⟨S294912, .i32⟩
  | 75 => ⟨S294912x1, .i32⟩
  | 76 => ⟨S294912, .i32⟩
  | 77 => ⟨S2x1x384x384, .i32⟩
  | 78 => ⟨S2x1x384x384, .f32⟩
  | 79 => ⟨S2x1x384x384, .f32⟩
  | 80 => ⟨S2x1x384x384, .f32⟩
  | 81 => ⟨S2x1x384x384, .f32⟩
  | 82 => ⟨S2x1x384x384, .i32⟩
  | 83 => ⟨S192, .i32⟩
  | 84 => ⟨S2x96x1x1, .i32⟩
  | 85 => ⟨S_, .i32⟩
  | 86 => ⟨S2x96x1x1, .i32⟩
  | 87 => ⟨S2x96x1x1, .i32⟩
  | 88 => ⟨S2x1x384x384, .i32⟩
  | 89 => ⟨S2x96x384x384, .i32⟩
  | 90 => ⟨S2x96x384x384, .i32⟩
  | 91 => ⟨S2x96x384x384, .i32⟩
  | 92 => ⟨S2x1x384x384, .i32⟩
  | 93 => ⟨S2x96x384x384, .i32⟩
  | 94 => ⟨S2x96x384x384, .i32⟩
  | 95 => ⟨S2x96x384x384, .i32⟩
  | 96 => ⟨S2x1x384x384, .i32⟩
  | 97 => ⟨S2x96x384x384, .i32⟩
  | 98 => ⟨S2x96x384x384, .i32⟩
  | 99 => ⟨S2x96x384x384, .i32⟩
  | 100 => ⟨S2x1x384x384, .i32⟩
  | 101 => ⟨S2x96x384x384, .i32⟩
  | 102 => ⟨S2x96x384x384, .i32⟩
  | 103 => ⟨S2x96x384x384, .i32⟩
  | 104 => ⟨S2x1x384x384, .i32⟩
  | 105 => ⟨S2x1x384x384, .i32⟩
  | 106 => ⟨S2x1x384x384, .i32⟩
  | 107 => ⟨S2x1x384x384, .i32⟩
  | 108 => ⟨S2x1x384x384, .i32⟩
  | 109 => ⟨S2x1x384x384, .i32⟩
  | 110 => ⟨S2x1x384x384, .i32⟩
  | 111 => ⟨S2x1x384x384, .i32⟩
  | 112 => ⟨S2x1x384x384, .i32⟩
  | 113 => ⟨S2x1x384x384, .f32⟩
  | 114 => ⟨S294912, .f32⟩
  | 115 => ⟨S294912, .i32⟩
  | 116 => ⟨S_, .i32⟩
  | 117 => ⟨S294912, .i32⟩
  | 118 => ⟨S294912, .i1⟩
  | 119 => ⟨S_, .i32⟩
  | 120 => ⟨S294912, .i32⟩
  | 121 => ⟨S294912, .i32⟩
  | 122 => ⟨S294912, .i32⟩
  | 123 => ⟨S294912x1, .i32⟩
  | 124 => ⟨S1, .i32⟩
  | 125 => ⟨S_, .i32⟩
  | 126 => ⟨S294912x1, .i32⟩
  | 127 => ⟨S294912x1, .i1⟩
  | _ => ⟨S2x96x384x384, .f32⟩

abbrev hbmTy0_2 (i : Nat) : BufTy := match i % 128 with
  | 0 => ⟨S1x1, .i32⟩
  | 1 => ⟨S294912x1, .i32⟩
  | 2 => ⟨S294912x1, .i1⟩
  | 3 => ⟨S294912x1, .i1⟩
  | 4 => ⟨S_, .i1⟩
  | 5 => ⟨S294912, .i1⟩
  | 6 => ⟨S294912, .f32⟩
  | 7 => ⟨S_, .f32⟩
  | 8 => ⟨S294912, .f32⟩
  | 9 => ⟨S294912, .f32⟩
  | 10 => ⟨S2x1x384x384, .f32⟩
  | 11 => ⟨S294912, .i32⟩
  | 12 => ⟨S_, .i32⟩
  | 13 => ⟨S294912, .i32⟩
  | 14 => ⟨S294912, .i1⟩
  | 15 => ⟨S_, .i32⟩
  | 16 => ⟨S294912, .i32⟩
  | 17 => ⟨S294912, .i32⟩
  | 18 => ⟨S294912, .i32⟩
  | 19 => ⟨S294912x1, .i32⟩
  | 20 => ⟨S1, .i32⟩
  | 21 => ⟨S_, .i32⟩
  | 22 => ⟨S294912x1, .i32⟩
  | 23 => ⟨S294912x1, .i1⟩
  | 24 => ⟨S1x1, .i32⟩
  | 25 => ⟨S294912x1, .i32⟩
  | 26 => ⟨S294912x1, .i1⟩
  | 27 => ⟨S294912x1, .i1⟩
  | 28 => ⟨S_, .i1⟩
  | 29 => ⟨S294912, .i1⟩
  | 30 => ⟨S294912, .f32⟩
  | 31 => ⟨S_, .f32⟩
  | 32 => ⟨S294912, .f32⟩
  | 33 => ⟨S294912, .f32⟩
  | 34 => ⟨S2x1x384x384, .f32⟩
  | 35 => ⟨S294912, .i32⟩
  | 36 => ⟨S_, .i32⟩
  | 37 => ⟨S294912, .i32⟩
  | 38 => ⟨S294912, .i1⟩
  | 39 => ⟨S_, .i32⟩
  | 40 => ⟨S294912, .i32⟩
  | 41 => ⟨S294912, .i32⟩
  | 42 => ⟨S294912, .i32⟩
  | 43 => ⟨S294912x1, .i32⟩
  | 44 => ⟨S1, .i32⟩
  | 45 => ⟨S_, .i32⟩
  | 46 => ⟨S294912x1, .i32⟩
  | 47 => ⟨S294912x1, .i1⟩
  | 48 => ⟨S1x1, .i32⟩
  | 49 => ⟨S294912x1, .i32⟩
  | 50 => ⟨S294912x1, .i1⟩
  | 51 => ⟨S294912x1, .i1⟩
  | 52 => ⟨S_, .i1⟩
  | 53 => ⟨S294912, .i1⟩
  | 54 => ⟨S294912, .f32⟩
  | 55 => ⟨S_, .f32⟩
  | 56 => ⟨S294912, .f32⟩
  | 57 => ⟨S294912, .f32⟩
  | 58 => ⟨S2x1x384x384, .f32⟩
  | 59 => ⟨S294912, .i32⟩
  | 60 => ⟨S_, .i32⟩
  | 61 => ⟨S294912, .i32⟩
  | 62 => ⟨S294912, .i1⟩
  | 63 => ⟨S_, .i32⟩
  | 64 => ⟨S294912, .i32⟩
  | 65 => ⟨S294912, .i32⟩
  | 66 => ⟨S294912, .i32⟩
  | 67 => ⟨S294912x1, .i32⟩
  | 68 => ⟨S1, .i32⟩
  | 69 => ⟨S_, .i32⟩
  | 70 => ⟨S294912x1, .i32⟩
  | 71 => ⟨S294912x1, .i1⟩
  | 72 => ⟨S1x1, .i32⟩
  | 73 => ⟨S294912x1, .i32⟩
  | 74 => ⟨S294912x1, .i1⟩
  | 75 => ⟨S294912x1, .i1⟩
  | 76 => ⟨S_, .i1⟩
  | 77 => ⟨S294912, .i1⟩
  | 78 => ⟨S294912, .f32⟩
  | 79 => ⟨S_, .f32⟩
  | 80 => ⟨S294912, .f32⟩
  | 81 => ⟨S294912, .f32⟩
  | 82 => ⟨S2x1x384x384, .f32⟩
  | 83 => ⟨S2x1x384x384, .i1⟩
  | 84 => ⟨S_, .f32⟩
  | 85 => ⟨S2x1x384x384, .f32⟩
  | 86 => ⟨S2x1x384x384, .i1⟩
  | 87 => ⟨S2x1x384x384, .f32⟩
  | 88 => ⟨S2x1x384x384, .f32⟩
  | 89 => ⟨S_, .f32⟩
  | 90 => ⟨S2x1x384x384, .f32⟩
  | 91 => ⟨S2x1x384x384, .i1⟩
  | 92 => ⟨S2x1x384x384, .i1⟩
  | 93 => ⟨S2x1x384x384, .i1⟩
  | 94 => ⟨S_, .f32⟩
  | 95 => ⟨S2x1x384x384, .f32⟩
  | 96 => ⟨S2x1x384x384, .i1⟩
  | 97 => ⟨S2x1x384x384, .f32⟩
  | 98 => ⟨S2x1x384x384, .f32⟩
  | 99 => ⟨S_, .f32⟩
  | 100 => ⟨S2x1x384x384, .f32⟩
  | 101 => ⟨S2x1x384x384, .i1⟩
  | 102 => ⟨S2x1x384x384, .i1⟩
  | 103 => ⟨S2x1x384x384, .i1⟩
  | 104 => ⟨S_, .f32⟩
  | 105 => ⟨S2x1x384x384, .f32⟩
  | 106 => ⟨S2x1x384x384, .i1⟩
  | 107 => ⟨S2x1x384x384, .f32⟩
  | 108 => ⟨S2x1x384x384, .f32⟩
  | 109 => ⟨S_, .f32⟩
  | 110 => ⟨S2x1x384x384, .f32⟩
  | 111 => ⟨S2x1x384x384, .i1⟩
  | 112 => ⟨S2x1x384x384, .i1⟩
  | 113 => ⟨S2x1x384x384, .i1⟩
  | 114 => ⟨S_, .f32⟩
  | 115 => ⟨S2x1x384x384, .f32⟩
  | 116 => ⟨S2x1x384x384, .i1⟩
  | 117 => ⟨S2x1x384x384, .f32⟩
  | 118 => ⟨S2x1x384x384, .f32⟩
  | 119 => ⟨S_, .f32⟩
  | 120 => ⟨S2x1x384x384, .f32⟩
  | 121 => ⟨S2x1x384x384, .i1⟩
  | 122 => ⟨S2x1x384x384, .i1⟩
  | 123 => ⟨S2x1x384x384, .i1⟩
  | 124 => ⟨S_, .f32⟩
  | 125 => ⟨S28311552, .f32⟩
  | 126 => ⟨S_, .f32⟩
  | 127 => ⟨S294912, .f32⟩
  | _ => ⟨S2x96x384x384, .f32⟩

abbrev hbmTy0_3 (i : Nat) : BufTy := match i % 128 with
  | 0 => ⟨S2x96x384x384, .f32⟩
  | 1 => ⟨S2x96x384x384, .f32⟩
  | 2 => ⟨S2x1x384x384, .f32⟩
  | 3 => ⟨S2x96x384x384, .f32⟩
  | 4 => ⟨S2x96x384x384, .f32⟩
  | 5 => ⟨S2x1x384x384, .f32⟩
  | 6 => ⟨S2x1x384x384, .f32⟩
  | 7 => ⟨S28311552, .i32⟩
  | 8 => ⟨S28311552, .f32⟩
  | 9 => ⟨S_, .i32⟩
  | 10 => ⟨S28311552, .i32⟩
  | 11 => ⟨S28311552, .i1⟩
  | 12 => ⟨S_, .i32⟩
  | 13 => ⟨S28311552, .i32⟩
  | 14 => ⟨S28311552, .i32⟩
  | 15 => ⟨S28311552, .i32⟩
  | 16 => ⟨S28311552x1, .i32⟩
  | 17 => ⟨S28311552, .f32⟩
  | 18 => ⟨S294912, .i32⟩
  | 19 => ⟨S294912, .f32⟩
  | 20 => ⟨S_, .i32⟩
  | 21 => ⟨S294912, .i32⟩
  | 22 => ⟨S294912, .i1⟩
  | 23 => ⟨S_, .i32⟩
  | 24 => ⟨S294912, .i32⟩
  | 25 => ⟨S294912, .i32⟩
  | 26 => ⟨S294912, .i32⟩
  | 27 => ⟨S294912x1, .i32⟩
  | 28 => ⟨S294912, .f32⟩
  | 29 => ⟨S2x96x384x384, .f32⟩
  | 30 => ⟨S2x96x384x384, .f32⟩
  | 31 => ⟨S2x1x384x384, .f32⟩
  | 32 => ⟨S2x96x384x384, .f32⟩
  | 33 => ⟨S2x96x384x384, .f32⟩
  | 34 => ⟨S2x1x384x384, .f32⟩
  | 35 => ⟨S2x1x384x384, .f32⟩
  | 36 => ⟨S28311552, .i32⟩
  | 37 => ⟨S28311552, .f32⟩
  | 38 => ⟨S_, .i32⟩
  | 39 => ⟨S28311552, .i32⟩
  | 40 => ⟨S28311552, .i1⟩
  | 41 => ⟨S_, .i32⟩
  | 42 => ⟨S28311552, .i32⟩
  | 43 => ⟨S28311552, .i32⟩
  | 44 => ⟨S28311552, .i32⟩
  | 45 => ⟨S28311552x1, .i32⟩
  | 46 => ⟨S28311552, .f32⟩
  | 47 => ⟨S294912, .i32⟩
  | 48 => ⟨S294912, .f32⟩
  | 49 => ⟨S_, .i32⟩
  | 50 => ⟨S294912, .i32⟩
  | 51 => ⟨S294912, .i1⟩
  | 52 => ⟨S_, .i32⟩
  | 53 => ⟨S294912, .i32⟩
  | 54 => ⟨S294912, .i32⟩
  | 55 => ⟨S294912, .i32⟩
  | 56 => ⟨S294912x1, .i32⟩
  | 57 => ⟨S294912, .f32⟩
  | 58 => ⟨S2x96x384x384, .f32⟩
  | 59 => ⟨S2x96x384x384, .f32⟩
  | 60 => ⟨S2x1x384x384, .f32⟩
  | 61 => ⟨S2x96x384x384, .f32⟩
  | 62 => ⟨S2x96x384x384, .f32⟩
  | 63 => ⟨S2x1x384x384, .f32⟩
  | 64 => ⟨S2x1x384x384, .f32⟩
  | 65 => ⟨S28311552, .i32⟩
  | 66 => ⟨S28311552, .f32⟩
  | 67 => ⟨S_, .i32⟩
  | 68 => ⟨S28311552, .i32⟩
  | 69 => ⟨S28311552, .i1⟩
  | 70 => ⟨S_, .i32⟩
  | 71 => ⟨S28311552, .i32⟩
  | 72 => ⟨S28311552, .i32⟩
  | 73 => ⟨S28311552, .i32⟩
  | 74 => ⟨S28311552x1, .i32⟩
  | 75 => ⟨S28311552, .f32⟩
  | 76 => ⟨S294912, .i32⟩
  | 77 => ⟨S294912, .f32⟩
  | 78 => ⟨S_, .i32⟩
  | 79 => ⟨S294912, .i32⟩
  | 80 => ⟨S294912, .i1⟩
  | 81 => ⟨S_, .i32⟩
  | 82 => ⟨S294912, .i32⟩
  | 83 => ⟨S294912, .i32⟩
  | 84 => ⟨S294912, .i32⟩
  | 85 => ⟨S294912x1, .i32⟩
  | 86 => ⟨S294912, .f32⟩
  | 87 => ⟨S2x96x384x384, .f32⟩
  | 88 => ⟨S2x96x384x384, .f32⟩
  | 89 => ⟨S2x1x384x384, .f32⟩
  | 90 => ⟨S2x96x384x384, .f32⟩
  | 91 => ⟨S2x96x384x384, .f32⟩
  | 92 => ⟨S2x1x384x384, .f32⟩
  | 93 => ⟨S2x1x384x384, .f32⟩
  | 94 => ⟨S28311552, .i32⟩
  | 95 => ⟨S28311552, .f32⟩
  | 96 => ⟨S_, .i32⟩
  | 97 => ⟨S28311552, .i32⟩
  | 98 => ⟨S28311552, .i1⟩
  | 99 => ⟨S_, .i32⟩
  | 100 => ⟨S28311552, .i32⟩
  | 101 => ⟨S28311552, .i32⟩
  | 102 => ⟨S28311552, .i32⟩
  | 103 => ⟨S28311552x1, .i32⟩
  | 104 => ⟨S28311552, .f32⟩
  | 105 => ⟨S294912, .i32⟩
  | 106 => ⟨S294912, .f32⟩
  | 107 => ⟨S_, .i32⟩
  | 108 => ⟨S294912, .i32⟩
  | 109 => ⟨S294912, .i1⟩
  | 110 => ⟨S_, .i32⟩
  | 111 => ⟨S294912, .i32⟩
  | 112 => ⟨S294912, .i32⟩
  | 113 => ⟨S294912, .i32⟩
  | 114 => ⟨S294912x1, .i32⟩
  | 115 => ⟨S294912, .f32⟩
  | 116 => ⟨S2x96x384x384, .f32⟩
  | 117 => ⟨S2x1x384x384, .f32⟩
  | 118 => ⟨S_, .f32⟩
  | 119 => ⟨S2x1x384x384, .f32⟩
  | 120 => ⟨S2x1x384x384, .f32⟩
  | 121 => ⟨S_, .f32⟩
  | 122 => ⟨S2x1x384x384, .f32⟩
  | 123 => ⟨S2x1x384x384, .f32⟩
  | 124 => ⟨S2x96x384x384, .f32⟩
  | 125 => ⟨S2x96x384x384, .f32⟩
  | 126 => ⟨S_, .f32⟩
  | 127 => ⟨S2x1x384x384, .f32⟩
  | _ => ⟨S2x96x384x384, .f32⟩

abbrev hbmTy0_4 (i : Nat) : BufTy := match i % 128 with
  | 0 => ⟨S2x1x384x384, .i1⟩
  | 1 => ⟨S_, .f32⟩
  | 2 => ⟨S2x1x384x384, .f32⟩
  | 3 => ⟨S_, .f32⟩
  | 4 => ⟨S2x1x384x384, .f32⟩
  | 5 => ⟨S2x1x384x384, .f32⟩
  | _ => ⟨S2x96x384x384, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2x96x384x384, .f32⟩

abbrev bufTy : (tb : Table) → Fin (tcTables nBuf tb) → BufTy
  | .hbm, ⟨i, _⟩ => hbmTy i
  | _, _ => ⟨S2x96x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_cst : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_c : Ref sig .tc := ⟨.hbm, 32, rfl⟩
abbrev main_v29 : Ref sig .tc := ⟨.hbm, 33, rfl⟩
abbrev main_v30 : Ref sig .tc := ⟨.hbm, 34, rfl⟩
abbrev main_c_0 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_c_1 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_c_2 : Ref sig .tc := ⟨.hbm, 64, rfl⟩
abbrev main_c_3 : Ref sig .tc := ⟨.hbm, 65, rfl⟩
abbrev main_call0_v0 : Ref sig .tc := ⟨.hbm, 66, rfl⟩
abbrev main_call0_v1 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_v58 : Ref sig .tc := ⟨.hbm, 71, rfl⟩
abbrev main_c_4 : Ref sig .tc := ⟨.hbm, 72, rfl⟩
abbrev main_c_5 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_call1_v3 : Ref sig .tc := ⟨.hbm, 77, rfl⟩
abbrev main_call1_v4 : Ref sig .tc := ⟨.hbm, 78, rfl⟩
abbrev main_v59 : Ref sig .tc := ⟨.hbm, 79, rfl⟩
abbrev main_c_6 : Ref sig .tc := ⟨.hbm, 80, rfl⟩
abbrev main_c_7 : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_v60 : Ref sig .tc := ⟨.hbm, 87, rfl⟩
abbrev main_c_8 : Ref sig .tc := ⟨.hbm, 88, rfl⟩
abbrev main_c_9 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_v61 : Ref sig .tc := ⟨.hbm, 95, rfl⟩
abbrev main_c_10 : Ref sig .tc := ⟨.hbm, 96, rfl⟩
abbrev main_v62 : Ref sig .tc := ⟨.hbm, 97, rfl⟩
abbrev main_v63 : Ref sig .tc := ⟨.hbm, 98, rfl⟩
abbrev main_c_11 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_c_12 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_c_13 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_c_14 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_c_15 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_c_16 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_c_17 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_c_18 : Ref sig .tc := ⟨.hbm, 131, rfl⟩
abbrev main_v89 : Ref sig .tc := ⟨.hbm, 132, rfl⟩
abbrev main_cst_19 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_c_20 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_c_21 : Ref sig .tc := ⟨.hbm, 142, rfl⟩
abbrev main_v97 : Ref sig .tc := ⟨.hbm, 143, rfl⟩
abbrev main_v98 : Ref sig .tc := ⟨.hbm, 144, rfl⟩
abbrev main_c_22 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_cst_23 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_c_24 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_c_25 : Ref sig .tc := ⟨.hbm, 160, rfl⟩
abbrev main_v111 : Ref sig .tc := ⟨.hbm, 161, rfl⟩
abbrev main_v112 : Ref sig .tc := ⟨.hbm, 162, rfl⟩
abbrev main_c_26 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_cst_27 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_c_28 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_c_29 : Ref sig .tc := ⟨.hbm, 178, rfl⟩
abbrev main_v125 : Ref sig .tc := ⟨.hbm, 179, rfl⟩
abbrev main_v126 : Ref sig .tc := ⟨.hbm, 180, rfl⟩
abbrev main_c_30 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_cst_31 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_c_32 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_c_33 : Ref sig .tc := ⟨.hbm, 196, rfl⟩
abbrev main_v139 : Ref sig .tc := ⟨.hbm, 197, rfl⟩
abbrev main_v140 : Ref sig .tc := ⟨.hbm, 198, rfl⟩
abbrev main_c_34 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_c_35 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_call8_c : Ref sig .tc := ⟨.hbm, 244, rfl⟩
abbrev main_call8_v0 : Ref sig .tc := ⟨.hbm, 245, rfl⟩
abbrev main_call8_v1 : Ref sig .tc := ⟨.hbm, 246, rfl⟩
abbrev main_call8_c_0 : Ref sig .tc := ⟨.hbm, 247, rfl⟩
abbrev main_call8_v2 : Ref sig .tc := ⟨.hbm, 248, rfl⟩
abbrev main_call8_v3 : Ref sig .tc := ⟨.hbm, 249, rfl⟩
abbrev main_call8_v4 : Ref sig .tc := ⟨.hbm, 250, rfl⟩
abbrev main_call8_v5 : Ref sig .tc := ⟨.hbm, 251, rfl⟩
abbrev main_call8_c_1 : Ref sig .tc := ⟨.hbm, 252, rfl⟩
abbrev main_call8_c_2 : Ref sig .tc := ⟨.hbm, 253, rfl⟩
abbrev main_call8_v6 : Ref sig .tc := ⟨.hbm, 254, rfl⟩
abbrev main_call8_v7 : Ref sig .tc := ⟨.hbm, 255, rfl⟩
abbrev main_call8_v8 : Ref sig .tc := ⟨.hbm, 256, rfl⟩
abbrev main_call8_v9 : Ref sig .tc := ⟨.hbm, 257, rfl⟩
abbrev main_call8_v10 : Ref sig .tc := ⟨.hbm, 258, rfl⟩
abbrev main_call8_v11 : Ref sig .tc := ⟨.hbm, 259, rfl⟩
abbrev main_call8_c_3 : Ref sig .tc := ⟨.hbm, 260, rfl⟩
abbrev main_call8_v12 : Ref sig .tc := ⟨.hbm, 261, rfl⟩
abbrev main_call8_v13 : Ref sig .tc := ⟨.hbm, 262, rfl⟩
abbrev main_call8_cst : Ref sig .tc := ⟨.hbm, 263, rfl⟩
abbrev main_call8_v14 : Ref sig .tc := ⟨.hbm, 264, rfl⟩
abbrev main_v184 : Ref sig .tc := ⟨.hbm, 265, rfl⟩
abbrev main_v185 : Ref sig .tc := ⟨.hbm, 266, rfl⟩
abbrev main_v186 : Ref sig .tc := ⟨.hbm, 267, rfl⟩
abbrev main_call9_c : Ref sig .tc := ⟨.hbm, 268, rfl⟩
abbrev main_call9_v0 : Ref sig .tc := ⟨.hbm, 269, rfl⟩
abbrev main_call9_v1 : Ref sig .tc := ⟨.hbm, 270, rfl⟩
abbrev main_call9_c_0 : Ref sig .tc := ⟨.hbm, 271, rfl⟩
abbrev main_call9_v2 : Ref sig .tc := ⟨.hbm, 272, rfl⟩
abbrev main_call9_v3 : Ref sig .tc := ⟨.hbm, 273, rfl⟩
abbrev main_call9_v4 : Ref sig .tc := ⟨.hbm, 274, rfl⟩
abbrev main_call9_v5 : Ref sig .tc := ⟨.hbm, 275, rfl⟩
abbrev main_call9_c_1 : Ref sig .tc := ⟨.hbm, 276, rfl⟩
abbrev main_call9_c_2 : Ref sig .tc := ⟨.hbm, 277, rfl⟩
abbrev main_call9_v6 : Ref sig .tc := ⟨.hbm, 278, rfl⟩
abbrev main_call9_v7 : Ref sig .tc := ⟨.hbm, 279, rfl⟩
abbrev main_call9_v8 : Ref sig .tc := ⟨.hbm, 280, rfl⟩
abbrev main_call9_v9 : Ref sig .tc := ⟨.hbm, 281, rfl⟩
abbrev main_call9_v10 : Ref sig .tc := ⟨.hbm, 282, rfl⟩
abbrev main_call9_v11 : Ref sig .tc := ⟨.hbm, 283, rfl⟩
abbrev main_call9_c_3 : Ref sig .tc := ⟨.hbm, 284, rfl⟩
abbrev main_call9_v12 : Ref sig .tc := ⟨.hbm, 285, rfl⟩
abbrev main_call9_v13 : Ref sig .tc := ⟨.hbm, 286, rfl⟩
abbrev main_call9_cst : Ref sig .tc := ⟨.hbm, 287, rfl⟩
abbrev main_call9_v14 : Ref sig .tc := ⟨.hbm, 288, rfl⟩
abbrev main_v187 : Ref sig .tc := ⟨.hbm, 289, rfl⟩
abbrev main_v188 : Ref sig .tc := ⟨.hbm, 290, rfl⟩
abbrev main_v189 : Ref sig .tc := ⟨.hbm, 291, rfl⟩
abbrev main_call10_c : Ref sig .tc := ⟨.hbm, 292, rfl⟩
abbrev main_call10_v0 : Ref sig .tc := ⟨.hbm, 293, rfl⟩
abbrev main_call10_v1 : Ref sig .tc := ⟨.hbm, 294, rfl⟩
abbrev main_call10_c_0 : Ref sig .tc := ⟨.hbm, 295, rfl⟩
abbrev main_call10_v2 : Ref sig .tc := ⟨.hbm, 296, rfl⟩
abbrev main_call10_v3 : Ref sig .tc := ⟨.hbm, 297, rfl⟩
abbrev main_call10_v4 : Ref sig .tc := ⟨.hbm, 298, rfl⟩
abbrev main_call10_v5 : Ref sig .tc := ⟨.hbm, 299, rfl⟩
abbrev main_call10_c_1 : Ref sig .tc := ⟨.hbm, 300, rfl⟩
abbrev main_call10_c_2 : Ref sig .tc := ⟨.hbm, 301, rfl⟩
abbrev main_call10_v6 : Ref sig .tc := ⟨.hbm, 302, rfl⟩
abbrev main_call10_v7 : Ref sig .tc := ⟨.hbm, 303, rfl⟩
abbrev main_call10_v8 : Ref sig .tc := ⟨.hbm, 304, rfl⟩
abbrev main_call10_v9 : Ref sig .tc := ⟨.hbm, 305, rfl⟩
abbrev main_call10_v10 : Ref sig .tc := ⟨.hbm, 306, rfl⟩
abbrev main_call10_v11 : Ref sig .tc := ⟨.hbm, 307, rfl⟩
abbrev main_call10_c_3 : Ref sig .tc := ⟨.hbm, 308, rfl⟩
abbrev main_call10_v12 : Ref sig .tc := ⟨.hbm, 309, rfl⟩
abbrev main_call10_v13 : Ref sig .tc := ⟨.hbm, 310, rfl⟩
abbrev main_call10_cst : Ref sig .tc := ⟨.hbm, 311, rfl⟩
abbrev main_call10_v14 : Ref sig .tc := ⟨.hbm, 312, rfl⟩
abbrev main_v190 : Ref sig .tc := ⟨.hbm, 313, rfl⟩
abbrev main_v191 : Ref sig .tc := ⟨.hbm, 314, rfl⟩
abbrev main_v192 : Ref sig .tc := ⟨.hbm, 315, rfl⟩
abbrev main_call11_c : Ref sig .tc := ⟨.hbm, 316, rfl⟩
abbrev main_call11_v0 : Ref sig .tc := ⟨.hbm, 317, rfl⟩
abbrev main_call11_v1 : Ref sig .tc := ⟨.hbm, 318, rfl⟩
abbrev main_call11_c_0 : Ref sig .tc := ⟨.hbm, 319, rfl⟩
abbrev main_call11_v2 : Ref sig .tc := ⟨.hbm, 320, rfl⟩
abbrev main_call11_v3 : Ref sig .tc := ⟨.hbm, 321, rfl⟩
abbrev main_call11_v4 : Ref sig .tc := ⟨.hbm, 322, rfl⟩
abbrev main_call11_v5 : Ref sig .tc := ⟨.hbm, 323, rfl⟩
abbrev main_call11_c_1 : Ref sig .tc := ⟨.hbm, 324, rfl⟩
abbrev main_call11_c_2 : Ref sig .tc := ⟨.hbm, 325, rfl⟩
abbrev main_call11_v6 : Ref sig .tc := ⟨.hbm, 326, rfl⟩
abbrev main_call11_v7 : Ref sig .tc := ⟨.hbm, 327, rfl⟩
abbrev main_call11_v8 : Ref sig .tc := ⟨.hbm, 328, rfl⟩
abbrev main_call11_v9 : Ref sig .tc := ⟨.hbm, 329, rfl⟩
abbrev main_call11_v10 : Ref sig .tc := ⟨.hbm, 330, rfl⟩
abbrev main_call11_v11 : Ref sig .tc := ⟨.hbm, 331, rfl⟩
abbrev main_call11_c_3 : Ref sig .tc := ⟨.hbm, 332, rfl⟩
abbrev main_call11_v12 : Ref sig .tc := ⟨.hbm, 333, rfl⟩
abbrev main_call11_v13 : Ref sig .tc := ⟨.hbm, 334, rfl⟩
abbrev main_call11_cst : Ref sig .tc := ⟨.hbm, 335, rfl⟩
abbrev main_call11_v14 : Ref sig .tc := ⟨.hbm, 336, rfl⟩
abbrev main_v193 : Ref sig .tc := ⟨.hbm, 337, rfl⟩
abbrev main_v194 : Ref sig .tc := ⟨.hbm, 338, rfl⟩
abbrev main_v195 : Ref sig .tc := ⟨.hbm, 339, rfl⟩
abbrev main_cst_36 : Ref sig .tc := ⟨.hbm, 340, rfl⟩
abbrev main_v196 : Ref sig .tc := ⟨.hbm, 341, rfl⟩
abbrev main_v197 : Ref sig .tc := ⟨.hbm, 342, rfl⟩
abbrev main_v198 : Ref sig .tc := ⟨.hbm, 343, rfl⟩
abbrev main_v199 : Ref sig .tc := ⟨.hbm, 344, rfl⟩
abbrev main_cst_37 : Ref sig .tc := ⟨.hbm, 345, rfl⟩
abbrev main_v200 : Ref sig .tc := ⟨.hbm, 346, rfl⟩
abbrev main_v201 : Ref sig .tc := ⟨.hbm, 347, rfl⟩
abbrev main_v202 : Ref sig .tc := ⟨.hbm, 348, rfl⟩
abbrev main_v203 : Ref sig .tc := ⟨.hbm, 349, rfl⟩
abbrev main_cst_38 : Ref sig .tc := ⟨.hbm, 350, rfl⟩
abbrev main_v204 : Ref sig .tc := ⟨.hbm, 351, rfl⟩
abbrev main_v205 : Ref sig .tc := ⟨.hbm, 352, rfl⟩
abbrev main_v206 : Ref sig .tc := ⟨.hbm, 353, rfl⟩
abbrev main_v207 : Ref sig .tc := ⟨.hbm, 354, rfl⟩
abbrev main_cst_39 : Ref sig .tc := ⟨.hbm, 355, rfl⟩
abbrev main_v208 : Ref sig .tc := ⟨.hbm, 356, rfl⟩
abbrev main_v209 : Ref sig .tc := ⟨.hbm, 357, rfl⟩
abbrev main_v210 : Ref sig .tc := ⟨.hbm, 358, rfl⟩
abbrev main_v211 : Ref sig .tc := ⟨.hbm, 359, rfl⟩
abbrev main_cst_40 : Ref sig .tc := ⟨.hbm, 360, rfl⟩
abbrev main_v212 : Ref sig .tc := ⟨.hbm, 361, rfl⟩
abbrev main_v213 : Ref sig .tc := ⟨.hbm, 362, rfl⟩
abbrev main_v214 : Ref sig .tc := ⟨.hbm, 363, rfl⟩
abbrev main_v215 : Ref sig .tc := ⟨.hbm, 364, rfl⟩
abbrev main_cst_41 : Ref sig .tc := ⟨.hbm, 365, rfl⟩
abbrev main_v216 : Ref sig .tc := ⟨.hbm, 366, rfl⟩
abbrev main_v217 : Ref sig .tc := ⟨.hbm, 367, rfl⟩
abbrev main_v218 : Ref sig .tc := ⟨.hbm, 368, rfl⟩
abbrev main_v219 : Ref sig .tc := ⟨.hbm, 369, rfl⟩
abbrev main_cst_42 : Ref sig .tc := ⟨.hbm, 370, rfl⟩
abbrev main_v220 : Ref sig .tc := ⟨.hbm, 371, rfl⟩
abbrev main_v221 : Ref sig .tc := ⟨.hbm, 372, rfl⟩
abbrev main_v222 : Ref sig .tc := ⟨.hbm, 373, rfl⟩
abbrev main_v223 : Ref sig .tc := ⟨.hbm, 374, rfl⟩
abbrev main_cst_43 : Ref sig .tc := ⟨.hbm, 375, rfl⟩
abbrev main_v224 : Ref sig .tc := ⟨.hbm, 376, rfl⟩
abbrev main_v225 : Ref sig .tc := ⟨.hbm, 377, rfl⟩
abbrev main_v226 : Ref sig .tc := ⟨.hbm, 378, rfl⟩
abbrev main_v227 : Ref sig .tc := ⟨.hbm, 379, rfl⟩
abbrev main_cst_44 : Ref sig .tc := ⟨.hbm, 380, rfl⟩
abbrev main_v228 : Ref sig .tc := ⟨.hbm, 381, rfl⟩
abbrev main_cst_45 : Ref sig .tc := ⟨.hbm, 382, rfl⟩
abbrev main_v229 : Ref sig .tc := ⟨.hbm, 383, rfl⟩
abbrev main_v230 : Ref sig .tc := ⟨.hbm, 384, rfl⟩
abbrev main_v231 : Ref sig .tc := ⟨.hbm, 385, rfl⟩
abbrev main_v232 : Ref sig .tc := ⟨.hbm, 386, rfl⟩
abbrev main_v233 : Ref sig .tc := ⟨.hbm, 387, rfl⟩
abbrev main_v234 : Ref sig .tc := ⟨.hbm, 388, rfl⟩
abbrev main_v235 : Ref sig .tc := ⟨.hbm, 389, rfl⟩
abbrev main_v236 : Ref sig .tc := ⟨.hbm, 390, rfl⟩
abbrev main_v237 : Ref sig .tc := ⟨.hbm, 391, rfl⟩
abbrev main_v238 : Ref sig .tc := ⟨.hbm, 392, rfl⟩
abbrev main_c_46 : Ref sig .tc := ⟨.hbm, 393, rfl⟩
abbrev main_v239 : Ref sig .tc := ⟨.hbm, 394, rfl⟩
abbrev main_v240 : Ref sig .tc := ⟨.hbm, 395, rfl⟩
abbrev main_c_47 : Ref sig .tc := ⟨.hbm, 396, rfl⟩
abbrev main_v241 : Ref sig .tc := ⟨.hbm, 397, rfl⟩
abbrev main_v242 : Ref sig .tc := ⟨.hbm, 398, rfl⟩
abbrev main_v243 : Ref sig .tc := ⟨.hbm, 399, rfl⟩
abbrev main_v244 : Ref sig .tc := ⟨.hbm, 400, rfl⟩
abbrev main_v245 : Ref sig .tc := ⟨.hbm, 401, rfl⟩
abbrev main_v246 : Ref sig .tc := ⟨.hbm, 402, rfl⟩
abbrev main_v247 : Ref sig .tc := ⟨.hbm, 403, rfl⟩
abbrev main_c_48 : Ref sig .tc := ⟨.hbm, 404, rfl⟩
abbrev main_v248 : Ref sig .tc := ⟨.hbm, 405, rfl⟩
abbrev main_v249 : Ref sig .tc := ⟨.hbm, 406, rfl⟩
abbrev main_c_49 : Ref sig .tc := ⟨.hbm, 407, rfl⟩
abbrev main_v250 : Ref sig .tc := ⟨.hbm, 408, rfl⟩
abbrev main_v251 : Ref sig .tc := ⟨.hbm, 409, rfl⟩
abbrev main_v252 : Ref sig .tc := ⟨.hbm, 410, rfl⟩
abbrev main_v253 : Ref sig .tc := ⟨.hbm, 411, rfl⟩
abbrev main_v254 : Ref sig .tc := ⟨.hbm, 412, rfl⟩
abbrev main_v255 : Ref sig .tc := ⟨.hbm, 413, rfl⟩
abbrev main_v256 : Ref sig .tc := ⟨.hbm, 414, rfl⟩
abbrev main_v257 : Ref sig .tc := ⟨.hbm, 415, rfl⟩
abbrev main_v258 : Ref sig .tc := ⟨.hbm, 416, rfl⟩
abbrev main_v259 : Ref sig .tc := ⟨.hbm, 417, rfl⟩
abbrev main_v260 : Ref sig .tc := ⟨.hbm, 418, rfl⟩
abbrev main_v261 : Ref sig .tc := ⟨.hbm, 419, rfl⟩
abbrev main_v262 : Ref sig .tc := ⟨.hbm, 420, rfl⟩
abbrev main_v263 : Ref sig .tc := ⟨.hbm, 421, rfl⟩
abbrev main_c_50 : Ref sig .tc := ⟨.hbm, 422, rfl⟩
abbrev main_v264 : Ref sig .tc := ⟨.hbm, 423, rfl⟩
abbrev main_v265 : Ref sig .tc := ⟨.hbm, 424, rfl⟩
abbrev main_c_51 : Ref sig .tc := ⟨.hbm, 425, rfl⟩
abbrev main_v266 : Ref sig .tc := ⟨.hbm, 426, rfl⟩
abbrev main_v267 : Ref sig .tc := ⟨.hbm, 427, rfl⟩
abbrev main_v268 : Ref sig .tc := ⟨.hbm, 428, rfl⟩
abbrev main_v269 : Ref sig .tc := ⟨.hbm, 429, rfl⟩
abbrev main_v270 : Ref sig .tc := ⟨.hbm, 430, rfl⟩
abbrev main_v271 : Ref sig .tc := ⟨.hbm, 431, rfl⟩
abbrev main_v272 : Ref sig .tc := ⟨.hbm, 432, rfl⟩
abbrev main_c_52 : Ref sig .tc := ⟨.hbm, 433, rfl⟩
abbrev main_v273 : Ref sig .tc := ⟨.hbm, 434, rfl⟩
abbrev main_v274 : Ref sig .tc := ⟨.hbm, 435, rfl⟩
abbrev main_c_53 : Ref sig .tc := ⟨.hbm, 436, rfl⟩
abbrev main_v275 : Ref sig .tc := ⟨.hbm, 437, rfl⟩
abbrev main_v276 : Ref sig .tc := ⟨.hbm, 438, rfl⟩
abbrev main_v277 : Ref sig .tc := ⟨.hbm, 439, rfl⟩
abbrev main_v278 : Ref sig .tc := ⟨.hbm, 440, rfl⟩
abbrev main_v279 : Ref sig .tc := ⟨.hbm, 441, rfl⟩
abbrev main_v280 : Ref sig .tc := ⟨.hbm, 442, rfl⟩
abbrev main_v281 : Ref sig .tc := ⟨.hbm, 443, rfl⟩
abbrev main_v282 : Ref sig .tc := ⟨.hbm, 444, rfl⟩
abbrev main_v283 : Ref sig .tc := ⟨.hbm, 445, rfl⟩
abbrev main_v284 : Ref sig .tc := ⟨.hbm, 446, rfl⟩
abbrev main_v285 : Ref sig .tc := ⟨.hbm, 447, rfl⟩
abbrev main_v286 : Ref sig .tc := ⟨.hbm, 448, rfl⟩
abbrev main_v287 : Ref sig .tc := ⟨.hbm, 449, rfl⟩
abbrev main_v288 : Ref sig .tc := ⟨.hbm, 450, rfl⟩
abbrev main_c_54 : Ref sig .tc := ⟨.hbm, 451, rfl⟩
abbrev main_v289 : Ref sig .tc := ⟨.hbm, 452, rfl⟩
abbrev main_v290 : Ref sig .tc := ⟨.hbm, 453, rfl⟩
abbrev main_c_55 : Ref sig .tc := ⟨.hbm, 454, rfl⟩
abbrev main_v291 : Ref sig .tc := ⟨.hbm, 455, rfl⟩
abbrev main_v292 : Ref sig .tc := ⟨.hbm, 456, rfl⟩
abbrev main_v293 : Ref sig .tc := ⟨.hbm, 457, rfl⟩
abbrev main_v294 : Ref sig .tc := ⟨.hbm, 458, rfl⟩
abbrev main_v295 : Ref sig .tc := ⟨.hbm, 459, rfl⟩
abbrev main_v296 : Ref sig .tc := ⟨.hbm, 460, rfl⟩
abbrev main_v297 : Ref sig .tc := ⟨.hbm, 461, rfl⟩
abbrev main_c_56 : Ref sig .tc := ⟨.hbm, 462, rfl⟩
abbrev main_v298 : Ref sig .tc := ⟨.hbm, 463, rfl⟩
abbrev main_v299 : Ref sig .tc := ⟨.hbm, 464, rfl⟩
abbrev main_c_57 : Ref sig .tc := ⟨.hbm, 465, rfl⟩
abbrev main_v300 : Ref sig .tc := ⟨.hbm, 466, rfl⟩
abbrev main_v301 : Ref sig .tc := ⟨.hbm, 467, rfl⟩
abbrev main_v302 : Ref sig .tc := ⟨.hbm, 468, rfl⟩
abbrev main_v303 : Ref sig .tc := ⟨.hbm, 469, rfl⟩
abbrev main_v304 : Ref sig .tc := ⟨.hbm, 470, rfl⟩
abbrev main_v305 : Ref sig .tc := ⟨.hbm, 471, rfl⟩
abbrev main_v306 : Ref sig .tc := ⟨.hbm, 472, rfl⟩
abbrev main_v307 : Ref sig .tc := ⟨.hbm, 473, rfl⟩
abbrev main_v308 : Ref sig .tc := ⟨.hbm, 474, rfl⟩
abbrev main_v309 : Ref sig .tc := ⟨.hbm, 475, rfl⟩
abbrev main_v310 : Ref sig .tc := ⟨.hbm, 476, rfl⟩
abbrev main_v311 : Ref sig .tc := ⟨.hbm, 477, rfl⟩
abbrev main_v312 : Ref sig .tc := ⟨.hbm, 478, rfl⟩
abbrev main_v313 : Ref sig .tc := ⟨.hbm, 479, rfl⟩
abbrev main_c_58 : Ref sig .tc := ⟨.hbm, 480, rfl⟩
abbrev main_v314 : Ref sig .tc := ⟨.hbm, 481, rfl⟩
abbrev main_v315 : Ref sig .tc := ⟨.hbm, 482, rfl⟩
abbrev main_c_59 : Ref sig .tc := ⟨.hbm, 483, rfl⟩
abbrev main_v316 : Ref sig .tc := ⟨.hbm, 484, rfl⟩
abbrev main_v317 : Ref sig .tc := ⟨.hbm, 485, rfl⟩
abbrev main_v318 : Ref sig .tc := ⟨.hbm, 486, rfl⟩
abbrev main_v319 : Ref sig .tc := ⟨.hbm, 487, rfl⟩
abbrev main_v320 : Ref sig .tc := ⟨.hbm, 488, rfl⟩
abbrev main_v321 : Ref sig .tc := ⟨.hbm, 489, rfl⟩
abbrev main_v322 : Ref sig .tc := ⟨.hbm, 490, rfl⟩
abbrev main_c_60 : Ref sig .tc := ⟨.hbm, 491, rfl⟩
abbrev main_v323 : Ref sig .tc := ⟨.hbm, 492, rfl⟩
abbrev main_v324 : Ref sig .tc := ⟨.hbm, 493, rfl⟩
abbrev main_c_61 : Ref sig .tc := ⟨.hbm, 494, rfl⟩
abbrev main_v325 : Ref sig .tc := ⟨.hbm, 495, rfl⟩
abbrev main_v326 : Ref sig .tc := ⟨.hbm, 496, rfl⟩
abbrev main_v327 : Ref sig .tc := ⟨.hbm, 497, rfl⟩
abbrev main_v328 : Ref sig .tc := ⟨.hbm, 498, rfl⟩
abbrev main_v329 : Ref sig .tc := ⟨.hbm, 499, rfl⟩
abbrev main_v330 : Ref sig .tc := ⟨.hbm, 500, rfl⟩
abbrev main_v331 : Ref sig .tc := ⟨.hbm, 501, rfl⟩
abbrev main_cst_62 : Ref sig .tc := ⟨.hbm, 502, rfl⟩
abbrev main_v332 : Ref sig .tc := ⟨.hbm, 503, rfl⟩
abbrev main_v333 : Ref sig .tc := ⟨.hbm, 504, rfl⟩
abbrev main_cst_63 : Ref sig .tc := ⟨.hbm, 505, rfl⟩
abbrev main_v334 : Ref sig .tc := ⟨.hbm, 506, rfl⟩
abbrev main_v335 : Ref sig .tc := ⟨.hbm, 507, rfl⟩
abbrev main_v336 : Ref sig .tc := ⟨.hbm, 508, rfl⟩
abbrev main_v337 : Ref sig .tc := ⟨.hbm, 509, rfl⟩
abbrev main_cst_64 : Ref sig .tc := ⟨.hbm, 510, rfl⟩
abbrev main_v338 : Ref sig .tc := ⟨.hbm, 511, rfl⟩
abbrev main_v339 : Ref sig .tc := ⟨.hbm, 512, rfl⟩
abbrev main_cst_65 : Ref sig .tc := ⟨.hbm, 513, rfl⟩
abbrev main_v340 : Ref sig .tc := ⟨.hbm, 514, rfl⟩
abbrev main_cst_66 : Ref sig .tc := ⟨.hbm, 515, rfl⟩
abbrev main_v341 : Ref sig .tc := ⟨.hbm, 516, rfl⟩
abbrev main_v342 : Ref sig .tc := ⟨.hbm, 517, rfl⟩

abbrev nD : Nat := 1
abbrev τ : Topo := Topo.v7x

variable {F : FTy → Type} [FloatOps F]
-- ==== Proof.KRun.lean ====
module

public import proofs.«01_k».proof.Proof.Gen.KernelIdeal.Frame

@[expose] public section

/-! The kernel's run, with the contents of every buffer that outlives it: whatever was read of the last boundary's
    valuation `W19` holds of the final memory. -/

noncomputable section

namespace Cert.KernelIdeal.Runs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxRecDepth 16384 in
set_option backward.isDefEq.respectTransparency.types false in
/-- Every execution of the kernel's program ends with each unscoped buffer at the last boundary's contents. -/
theorem ends : θ_run defs (onTc (τ := τ) (main (F := F))) ⟨m, fun _ => 0, ρ⟩ (fun r => ∀ c : Dev nD,
      ∀ b : Ref sig .tc, ¬ (Proc.devRef .tc b : DevRef τ sig).isScoped →
        r.2.mem ((c : Thread nD τ).loc b) = W19 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h _ c b hb => h c _ (mem_uc b hb))

end Cert.KernelIdeal.Runs

end
-- ==== Proof.Splat.lean ====
module

public import Idealize.ShloMosaic.Lib.Pointwise
public import Idealize.ShloMosaic.Lib.WordCmp

@[expose] public section

/-! The splat of one pixel: where the flow sends it, the four cells round that place, and what each of them is given. The four corners are numbered
    0 (left, upper), 1 (right, upper), 2 (left, lower), 3 (right, lower). Everything is a function of the flow's two components at that pixel. -/

set_option maxRecDepth 16384

noncomputable section

namespace Cert.Splat

open Idealize.ShloMosaic

/-- The flow: for each image, row and column, a displacement in `x` and one in `y`. -/
abbrev SFlow : Shape := ⟨4, ![2, 384, 384, 2]⟩
/-- One entry for each pixel of both images. -/
abbrev SPix : Shape := ⟨1, ![294912]⟩

variable (X : FVec Ideal SFlow .f32) (b : Fin 2) (y x : Fin 384)

/-- The column the pixel is sent to. -/
def xd : EReal := FloatOps.sitofp (F := Ideal) .f32 (BitVec.ofNat 32 x.val) + X (ix4 b y x 0)
/-- The row the pixel is sent to. -/
def yd : EReal := FloatOps.sitofp (F := Ideal) .f32 (BitVec.ofNat 32 y.val) + X (ix4 b y x 1)
/-- Its length, in hundredths. -/
def len : BitVec 32 := FloatOps.fptosi (F := Ideal) (φ := .f32) 32
  (Ideal.ofBits .f32 0x42C80000#32 * Ideal.sqrt (X (ix4 b y x 0) * X (ix4 b y x 0) + X (ix4 b y x 1) * X (ix4 b y x 1)))
/-- The column to its left. -/
def xl : BitVec 32 := FloatOps.fptosi (F := Ideal) (φ := .f32) 32 (Ideal.liftRound Int.floor (xd X b y x))
/-- The row above it. -/
def yl : BitVec 32 := FloatOps.fptosi (F := Ideal) (φ := .f32) 32 (Ideal.liftRound Int.floor (yd X b y x))
/-- The column to its right. -/
def xh : BitVec 32 := IntOp.addi (xl X b y x) 1#32
/-- The row below it. -/
def yh : BitVec 32 := IntOp.addi (yl X b y x) 1#32

/-- The distance from the right column. -/
def xu : EReal := FloatOps.sitofp (F := Ideal) .f32 (xh X b y x) - xd X b y x
/-- The distance from the left column. -/
def xv : EReal := xd X b y x - FloatOps.sitofp (F := Ideal) .f32 (xl X b y x)
/-- The distance from the lower row. -/
def yu : EReal := FloatOps.sitofp (F := Ideal) .f32 (yh X b y x) - yd X b y x
/-- The distance from the upper row. -/
def yv : EReal := yd X b y x - FloatOps.sitofp (F := Ideal) .f32 (yl X b y x)

/-- A corner's share. -/
def share (k : Fin 4) : EReal := ![xu X b y x * yu X b y x, xv X b y x * yu X b y x, xu X b y x * yv X b y x, xv X b y x * yv X b y x] k

/-- A coordinate brought into the image. -/
def clip (w : BitVec 32) : BitVec 32 := IntOp.minsi 383#32 (IntOp.maxsi 0#32 w)

/-- The cell of the row `r` and the column `c`, both brought into the image. -/
def cellOf (r c : BitVec 32) : BitVec 32 := IntOp.addi (IntOp.muli (clip r) 384#32) (clip c)

/-- A corner's cell within its image. -/
def off (k : Fin 4) : BitVec 32 :=
  ![cellOf (yl X b y x) (xl X b y x), cellOf (yl X b y x) (xh X b y x), cellOf (yh X b y x) (xl X b y x), cellOf (yh X b y x) (xh X b y x)] k

/-- The pixel is sent into the image. -/
def valid : BitVec 1 :=
  IntOp.andi (IntOp.andi (IntOp.andi (IntOp.cmpi .sge (xl X b y x) 0#32) (IntOp.cmpi .sle (xh X b y x) 384#32)) (IntOp.cmpi .sge (yl X b y x) 0#32))
    (IntOp.cmpi .sle (yh X b y x) 384#32)

/-- The corner takes part. -/
def act (k : Fin 4) : BitVec 1 :=
  IntOp.andi (FloatOps.cmpf (F := Ideal) (φ := .f32) .oge (share X b y x k) (Ideal.ofBits .f32 0x3E800000#32)) (valid X b y x)

/-- A corner's cell among the cells of both images. -/
def cell (k : Fin 4) : BitVec 32 := IntOp.addi (IntOp.muli (BitVec.ofNat 32 b.val) 147456#32) (off X b y x k)

/-- The length it offers to a corner's cell: 0 where the corner takes no part. -/
def offer (k : Fin 4) : BitVec 32 := Scalar.select (act X b y x k) (len X b y x) 0#32

/-- Its share where the corner takes part, else 0. -/
def kept (k : Fin 4) : EReal := Scalar.select (act X b y x k) (share X b y x k) 0

/-- One entry for each corner and pixel. -/
abbrev SCorner : Shape := ⟨4, ![4, 2, 384, 384]⟩

/-- Every corner's cell. -/
def cells : SCorner.Idx → BitVec 32 := fun j => cell X (j 1) (j 2) (j 3) (j 0)
/-- Every corner's offer. -/
def offers : SCorner.Idx → BitVec 32 := fun j => offer X (j 1) (j 2) (j 3) (j 0)
/-- Every corner's share, 0 where it takes no part. -/
def shares : SCorner.Idx → EReal := fun j => kept X (j 1) (j 2) (j 3) (j 0)

end Cert.Splat
-- ==== Proof.KPrep.lean ====
module

public import proofs.«01_k».proof.Proof.Gen.KernelIdeal.Frame
public import proofs.«01_k».proof.Proof.Splat
public import Idealize.ShloMosaic.Lib.Pipeline.ValueKit

@[expose] public section

/-! The first pipelined region's values: what it stores of a block of rows is the splat of the block's pixels. -/

set_option maxRecDepth 16384

noncomputable section

namespace Cert.KernelIdeal.Prep

open Cert.KernelIdeal Cert.KernelIdeal.Gen
open Idealize.ShloMosaic Idealize.ShloMosaic.TcCoe
open Cert.Splat (xd yd xl yl xh yh xu xv yu yv share clip cellOf off valid act cell offer kept len)

section Payloads

variable (i : grid0.Coords) (x0 : FVec Ideal S1x32x384x2 .f32) (X : FVec Ideal Splat.SFlow .f32) (b : Fin 2) (y : Fin 384) (r : Fin 32) (c : Fin 384)
  (hx : ∀ e : Fin 2, x0 (ix4 0 r c e) = X (ix4 b y c e)) (hy : y.val = (i 1).val * 32 + r.val)

include hx

theorem len_at : k0_pay46 (F := Ideal) i x0 (ix2 r c) = len X b y c := by
  unfold k0_pay46
  unfold_payloads
  pointwise [hx, len]

theorem xl_at : k0_pay47 (F := Ideal) i x0 (ix2 r c) = xl X b y c := by
  unfold k0_pay47
  unfold_payloads
  pointwise [hx, xl, xd]

theorem xh_at : k0_pay49 (F := Ideal) i x0 (ix2 r c) = xh X b y c := by
  unfold k0_pay49
  unfold_payloads
  pointwise [hx, xh, xl, xd]

include hy

/-- The row's number: the block's first row and the row within the block. -/
theorem row_word : IntOp.addi (BitVec.ofNat 32 r.val) (Scalar.muli (BitVec.ofNat 32 (i 1).val) 32#32) = BitVec.ofNat 32 y.val := by
  show BitVec.ofNat 32 r.val + BitVec.ofNat 32 (i 1).val * BitVec.ofNat 32 32 = _
  rw [← BitVec.ofNat_mul, ← BitVec.ofNat_add, hy, Nat.add_comm]

theorem yl_at : k0_pay48 (F := Ideal) i x0 (ix2 r c) = yl X b y c := by
  unfold k0_pay48
  unfold_payloads
  pointwise [hx, yl, yd, row_word i x0 X b y r c hx hy]

theorem yh_at : k0_pay50 (F := Ideal) i x0 (ix2 r c) = yh X b y c := by
  unfold k0_pay50
  unfold_payloads
  pointwise [hx, yh, yl, yd, row_word i x0 X b y r c hx hy]

theorem share0_at : k0_pay51 (F := Ideal) i x0 (ix2 r c) = share X b y c 0 := by
  unfold k0_pay51
  unfold_payloads
  pointwise [hx, share, xu, yu, xv, yv, xh, yh, xl, yl, xd, yd, row_word i x0 X b y r c hx hy]
  try rfl

theorem share1_at : k0_pay52 (F := Ideal) i x0 (ix2 r c) = share X b y c 1 := by
  unfold k0_pay52
  unfold_payloads
  pointwise [hx, share, xu, yu, xv, yv, xh, yh, xl, yl, xd, yd, row_word i x0 X b y r c hx hy]
  try rfl

theorem share2_at : k0_pay53 (F := Ideal) i x0 (ix2 r c) = share X b y c 2 := by
  unfold k0_pay53
  unfold_payloads
  pointwise [hx, share, xu, yu, xv, yv, xh, yh, xl, yl, xd, yd, row_word i x0 X b y r c hx hy]
  try rfl

theorem share3_at : k0_pay54 (F := Ideal) i x0 (ix2 r c) = share X b y c 3 := by
  unfold k0_pay54
  unfold_payloads
  pointwise [hx, share, xu, yu, xv, yv, xh, yh, xl, yl, xd, yd, row_word i x0 X b y r c hx hy]
  try rfl

theorem valid_at : k0_pay55 (F := Ideal) i x0 (ix2 r c) = valid X b y c := by
  unfold k0_pay55
  pointwise [k0_pay25, xl_at i x0 X b y r c hx, xh_at i x0 X b y r c hx, yl_at i x0 X b y r c hx hy, yh_at i x0 X b y r c hx hy, valid]

theorem offer0_at (p q : Fin 1) : k0_pay33 (F := Ideal) (k0_pay46 (F := Ideal) i x0) (k0_pay51 (F := Ideal) i x0) (k0_pay55 (F := Ideal) i x0) (ix4 p q r c) = offer X b y c 0 := by
  pointwise [k0_pay33, k0_pay31, share0_at i x0 X b y r c hx hy, valid_at i x0 X b y r c hx hy, len_at i x0 X b y r c hx, offer, act]

theorem kept0_at (p q : Fin 1) : k0_pay34 (F := Ideal) (k0_pay51 (F := Ideal) i x0) (k0_pay55 (F := Ideal) i x0) (ix4 p q r c) = kept X b y c 0 := by
  pointwise [k0_pay34, k0_pay31, share0_at i x0 X b y r c hx hy, valid_at i x0 X b y r c hx hy, kept, act]

theorem cell0_at (hb : b.val = (i 0).val) (p q : Fin 1) : k0_pay32 (k0_pay26 (k0_pay47 (F := Ideal) i x0) (k0_pay48 (F := Ideal) i x0) 0#32 383#32) (Scalar.muli (BitVec.ofNat 32 (i 0).val) 147456#32) (ix4 p q r c) = cell X b y c 0 := by
  pointwise [k0_pay32, k0_pay26, k0_pay22, k0_pay21, xl_at i x0 X b y r c hx, xh_at i x0 X b y r c hx, yl_at i x0 X b y r c hx hy, yh_at i x0 X b y r c hx hy, cell, off, cellOf, clip, hb]
  try rfl

theorem offer1_at (p q : Fin 1) : k0_pay38 (k0_pay37 (F := Ideal) (k0_pay46 (F := Ideal) i x0) (k0_pay52 (F := Ideal) i x0) (k0_pay55 (F := Ideal) i x0)) (ix4 p q r c) = offer X b y c 1 := by
  pointwise [k0_pay38, k0_pay37, k0_pay35, share1_at i x0 X b y r c hx hy, valid_at i x0 X b y r c hx hy, len_at i x0 X b y r c hx, offer, act]

theorem kept1_at (p q : Fin 1) : k0_pay39 (F := Ideal) (k0_pay52 (F := Ideal) i x0) (k0_pay35 (F := Ideal) (k0_pay52 (F := Ideal) i x0) (k0_pay55 (F := Ideal) i x0)) (ix4 p q r c) = kept X b y c 1 := by
  pointwise [k0_pay39, k0_pay35, share1_at i x0 X b y r c hx hy, valid_at i x0 X b y r c hx hy, kept, act]

theorem cell1_at (hb : b.val = (i 0).val) (p q : Fin 1) : k0_pay36 (k0_pay27 (k0_pay48 (F := Ideal) i x0) (k0_pay49 (F := Ideal) i x0)) (Scalar.muli (BitVec.ofNat 32 (i 0).val) 147456#32) (ix4 p q r c) = cell X b y c 1 := by
  pointwise [k0_pay36, k0_pay27, k0_pay22, k0_pay23, xl_at i x0 X b y r c hx, xh_at i x0 X b y r c hx, yl_at i x0 X b y r c hx hy, yh_at i x0 X b y r c hx hy, cell, off, cellOf, clip, hb]
  try rfl

theorem offer2_at (p q : Fin 1) : k0_pay42 (F := Ideal) (k0_pay46 (F := Ideal) i x0) (k0_pay53 (F := Ideal) i x0) (k0_pay55 (F := Ideal) i x0) (ix4 p q r c) = offer X b y c 2 := by
  pointwise [k0_pay42, k0_pay40, share2_at i x0 X b y r c hx hy, valid_at i x0 X b y r c hx hy, len_at i x0 X b y r c hx, offer, act]

theorem kept2_at (p q : Fin 1) : k0_pay43 (F := Ideal) (k0_pay53 (F := Ideal) i x0) (k0_pay55 (F := Ideal) i x0) (ix4 p q r c) = kept X b y c 2 := by
  pointwise [k0_pay43, k0_pay40, share2_at i x0 X b y r c hx hy, valid_at i x0 X b y r c hx hy, kept, act]

theorem cell2_at (hb : b.val = (i 0).val) (p q : Fin 1) : k0_pay41 (k0_pay28 (k0_pay47 (F := Ideal) i x0) (k0_pay50 (F := Ideal) i x0) 0#32 383#32) (Scalar.muli (BitVec.ofNat 32 (i 0).val) 147456#32) (ix4 p q r c) = cell X b y c 2 := by
  pointwise [k0_pay41, k0_pay28, k0_pay24, k0_pay21, xl_at i x0 X b y r c hx, xh_at i x0 X b y r c hx, yl_at i x0 X b y r c hx hy, yh_at i x0 X b y r c hx hy, cell, off, cellOf, clip, hb]
  try rfl

theorem offer3_at (p q : Fin 1) : k0_pay2 (k0_pay46 (F := Ideal) i x0) (k0_pay56 (F := Ideal) i x0) (ix4 p q r c) = offer X b y c 3 := by
  pointwise [k0_pay2, k0_pay56, k0_pay44, share3_at i x0 X b y r c hx hy, valid_at i x0 X b y r c hx hy, len_at i x0 X b y r c hx, offer, act]

theorem kept3_at (p q : Fin 1) : k0_pay3 (F := Ideal) (k0_pay54 (F := Ideal) i x0) (k0_pay56 (F := Ideal) i x0) (ix4 p q r c) = kept X b y c 3 := by
  pointwise [k0_pay3, k0_pay56, k0_pay44, share3_at i x0 X b y r c hx hy, valid_at i x0 X b y r c hx hy, kept, act]

theorem cell3_at (hb : b.val = (i 0).val) (p q : Fin 1) : k0_pay1 (k0_pay45 (k0_pay29 (k0_pay49 (F := Ideal) i x0) (k0_pay50 (F := Ideal) i x0)) (Scalar.muli (BitVec.ofNat 32 (i 0).val) 147456#32)) (ix4 p q r c) = cell X b y c 3 := by
  pointwise [k0_pay1, k0_pay45, k0_pay29, k0_pay24, k0_pay23, xl_at i x0 X b y r c hx, xh_at i x0 X b y r c hx, yl_at i x0 X b y r c hx hy, yh_at i x0 X b y r c hx hy, cell, off, cellOf, clip, hb]
  try rfl

end Payloads

end Cert.KernelIdeal.Prep
-- ==== Proof.KArr.lean ====
module

public import proofs.«01_k».proof.Proof.KPrep

@[expose] public section

/-! The first pipelined region's four arrays, whole. -/

set_option maxRecDepth 16384

noncomputable section

namespace Cert.KernelIdeal.Prep

open Cert.KernelIdeal Cert.KernelIdeal.Gen
open Idealize.ShloMosaic Idealize.ShloMosaic.TcCoe
open Idealize.ShloMosaic.Pipeline (Dat)
open Cert.Splat (cell offer kept len)

variable (V : (c : Dev nD) → (b : Ref sig .tc) → Buf (Elt Ideal) ((c : Thread nD τ).loc b)) (c : Dev nD)

/-- The flow as the region finds it. -/
abbrev flow : FVec Ideal Splat.SFlow .f32 := V c main_arg1

/-- Where each window's block lies. -/
theorem idx : ∀ t : Fin cfg0.N, win0_0.index t = ![(grid0.coords t 0).val, (grid0.coords t 1).val, 0, 0]
    ∧ win0_1.index t = ![0, (grid0.coords t 0).val, (grid0.coords t 1).val, 0] ∧ win0_2.index t = ![0, (grid0.coords t 0).val, (grid0.coords t 1).val, 0]
    ∧ win0_3.index t = ![0, (grid0.coords t 0).val, (grid0.coords t 1).val, 0] ∧ win0_4.index t = ![(grid0.coords t 0).val, (grid0.coords t 1).val, 0]
    ∧ (grid0.coords t 0).val < 2 ∧ (grid0.coords t 1).val < 12 :=
  (by decide +kernel : ∀ t : Fin grid0.N, _)

/-- A block's entry is the flow's at the block's rows. -/
theorem blk_at (t : Fin cfg0.N) (b : Fin 2) (y : Fin 384) (r : Fin 32) (x : Fin 384) (hb : b.val = (grid0.coords t 0).val)
    (hy : y.val = (grid0.coords t 1).val * 32 + r.val) (e : Fin 2) :
    (iblk0 V c 0 t : FVec Ideal S1x32x384x2 .f32) (ix4 0 r x e) = flow V c (ix4 b y x e) := by
  blk_ext [iblk0, flow, idx t, hb, hy]

section Point

variable (t : Fin cfg0.N) (y : S4x1x32x384.Idx) (b : Fin 2) (r x' : Fin 384) (k : Fin 4) (hb : b.val = (grid0.coords t 0).val)
    (hr : r.val = (grid0.coords t 1).val * 32 + (y 2).val) (hx : x'.val = (y 3).val) (hk : k.val = (y 0).val)

include hb hr hx hk

theorem point_cell : out0_1 (grid0.coords t) (iblk0 V c 0 t) y = cell (flow V c) b r x' k := by
  unfold out0_1
  canon_tiles z h
  case piece0 =>
    obtain rfl : k = 3 := Fin.ext (by omega)
    obtain rfl : x' = z 3 := Fin.ext (by omega)
    have hz : r.val = (grid0.coords t 1).val * 32 + (z 2).val := by omega
    exact (congrArg _ (eq_ix4 z)).trans (cell3_at _ _ (flow V c) b r (z 2) (z 3) (blk_at V c t b r (z 2) (z 3) hb hz) hz hb (z 0) (z 1))
  case piece1 =>
    obtain rfl : k = 2 := Fin.ext (by omega)
    obtain rfl : x' = z 3 := Fin.ext (by omega)
    have hz : r.val = (grid0.coords t 1).val * 32 + (z 2).val := by omega
    exact (congrArg _ (eq_ix4 z)).trans (cell2_at _ _ (flow V c) b r (z 2) (z 3) (blk_at V c t b r (z 2) (z 3) hb hz) hz hb (z 0) (z 1))
  case piece2 =>
    obtain rfl : k = 1 := Fin.ext (by omega)
    obtain rfl : x' = z 3 := Fin.ext (by omega)
    have hz : r.val = (grid0.coords t 1).val * 32 + (z 2).val := by omega
    exact (congrArg _ (eq_ix4 z)).trans (cell1_at _ _ (flow V c) b r (z 2) (z 3) (blk_at V c t b r (z 2) (z 3) hb hz) hz hb (z 0) (z 1))
  case piece3 =>
    obtain rfl : k = 0 := Fin.ext (by omega)
    obtain rfl : x' = z 3 := Fin.ext (by omega)
    have hz : r.val = (grid0.coords t 1).val * 32 + (z 2).val := by omega
    exact (congrArg _ (eq_ix4 z)).trans (cell0_at _ _ (flow V c) b r (z 2) (z 3) (blk_at V c t b r (z 2) (z 3) hb hz) hz hb (z 0) (z 1))

theorem point_offer : out0_2 (grid0.coords t) (iblk0 V c 0 t) y = offer (flow V c) b r x' k := by
  unfold out0_2
  canon_tiles z h
  case piece0 =>
    obtain rfl : k = 3 := Fin.ext (by omega)
    obtain rfl : x' = z 3 := Fin.ext (by omega)
    have hz : r.val = (grid0.coords t 1).val * 32 + (z 2).val := by omega
    exact (congrArg _ (eq_ix4 z)).trans (offer3_at _ _ (flow V c) b r (z 2) (z 3) (blk_at V c t b r (z 2) (z 3) hb hz) hz (z 0) (z 1))
  case piece1 =>
    obtain rfl : k = 2 := Fin.ext (by omega)
    obtain rfl : x' = z 3 := Fin.ext (by omega)
    have hz : r.val = (grid0.coords t 1).val * 32 + (z 2).val := by omega
    exact (congrArg _ (eq_ix4 z)).trans (offer2_at _ _ (flow V c) b r (z 2) (z 3) (blk_at V c t b r (z 2) (z 3) hb hz) hz (z 0) (z 1))
  case piece2 =>
    obtain rfl : k = 1 := Fin.ext (by omega)
    obtain rfl : x' = z 3 := Fin.ext (by omega)
    have hz : r.val = (grid0.coords t 1).val * 32 + (z 2).val := by omega
    exact (congrArg _ (eq_ix4 z)).trans (offer1_at _ _ (flow V c) b r (z 2) (z 3) (blk_at V c t b r (z 2) (z 3) hb hz) hz (z 0) (z 1))
  case piece3 =>
    obtain rfl : k = 0 := Fin.ext (by omega)
    obtain rfl : x' = z 3 := Fin.ext (by omega)
    have hz : r.val = (grid0.coords t 1).val * 32 + (z 2).val := by omega
    exact (congrArg _ (eq_ix4 z)).trans (offer0_at _ _ (flow V c) b r (z 2) (z 3) (blk_at V c t b r (z 2) (z 3) hb hz) hz (z 0) (z 1))

theorem point_kept : out0_3 (grid0.coords t) (iblk0 V c 0 t) y = kept (flow V c) b r x' k := by
  unfold out0_3
  canon_tiles z h
  case piece0 =>
    obtain rfl : k = 3 := Fin.ext (by omega)
    obtain rfl : x' = z 3 := Fin.ext (by omega)
    have hz : r.val = (grid0.coords t 1).val * 32 + (z 2).val := by omega
    exact (congrArg _ (eq_ix4 z)).trans (kept3_at _ _ (flow V c) b r (z 2) (z 3) (blk_at V c t b r (z 2) (z 3) hb hz) hz (z 0) (z 1))
  case piece1 =>
    obtain rfl : k = 2 := Fin.ext (by omega)
    obtain rfl : x' = z 3 := Fin.ext (by omega)
    have hz : r.val = (grid0.coords t 1).val * 32 + (z 2).val := by omega
    exact (congrArg _ (eq_ix4 z)).trans (kept2_at _ _ (flow V c) b r (z 2) (z 3) (blk_at V c t b r (z 2) (z 3) hb hz) hz (z 0) (z 1))
  case piece2 =>
    obtain rfl : k = 1 := Fin.ext (by omega)
    obtain rfl : x' = z 3 := Fin.ext (by omega)
    have hz : r.val = (grid0.coords t 1).val * 32 + (z 2).val := by omega
    exact (congrArg _ (eq_ix4 z)).trans (kept1_at _ _ (flow V c) b r (z 2) (z 3) (blk_at V c t b r (z 2) (z 3) hb hz) hz (z 0) (z 1))
  case piece3 =>
    obtain rfl : k = 0 := Fin.ext (by omega)
    obtain rfl : x' = z 3 := Fin.ext (by omega)
    have hz : r.val = (grid0.coords t 1).val * 32 + (z 2).val := by omega
    exact (congrArg _ (eq_ix4 z)).trans (kept0_at _ _ (flow V c) b r (z 2) (z 3) (blk_at V c t b r (z 2) (z 3) hb hz) hz (z 0) (z 1))

end Point

theorem arr_cell : (dat0 V c).arrAt 1 cfg0.N = fun j => cell (flow V c) (j 1) (j 2) (j 3) (j 0) := by
  refine (dat0 V c).arrAt_eq_of_covers 1 _ (by decide +kernel) fun t _ y => ?_
  blk_simp
  rw [after0_1]
  refine point_cell V c t y _ _ _ _ ?_ ?_ ?_ ?_ <;> blk_simp [idx t] <;> idx_bounds y <;> (try omega)

theorem arr_offer : (dat0 V c).arrAt 2 cfg0.N = fun j => offer (flow V c) (j 1) (j 2) (j 3) (j 0) := by
  refine (dat0 V c).arrAt_eq_of_covers 2 _ (by decide +kernel) fun t _ y => ?_
  blk_simp
  rw [after0_2]
  refine point_offer V c t y _ _ _ _ ?_ ?_ ?_ ?_ <;> blk_simp [idx t] <;> idx_bounds y <;> (try omega)

theorem arr_kept : (dat0 V c).arrAt 3 cfg0.N = fun j => kept (flow V c) (j 1) (j 2) (j 3) (j 0) := by
  refine (dat0 V c).arrAt_eq_of_covers 3 _ (by decide +kernel) fun t _ y => ?_
  blk_simp
  rw [after0_3]
  refine point_kept V c t y _ _ _ _ ?_ ?_ ?_ ?_ <;> blk_simp [idx t] <;> idx_bounds y <;> (try omega)

theorem point_len (t : Fin cfg0.N) (y : S1x32x384.Idx) (b : Fin 2) (r x' : Fin 384) (hb : b.val = (grid0.coords t 0).val)
    (hr : r.val = (grid0.coords t 1).val * 32 + (y 1).val) (hx : x'.val = (y 2).val) :
    k0_pay30 (k0_pay46 (F := Ideal) (grid0.coords t) (iblk0 V c 0 t)) y = len (flow V c) b r x' := by
  obtain rfl : x' = y 2 := Fin.ext hx
  idx_vars y
  pointwise [k0_pay30]
  exact len_at _ _ (flow V c) b r y1 y2 (blk_at V c t b r y1 y2 hb hr)

theorem arr_len : (dat0 V c).arrAt 4 cfg0.N = fun j => len (flow V c) (j 0) (j 1) (j 2) := by
  refine (dat0 V c).arrAt_eq_of_covers 4 _ (by decide +kernel) fun t _ y => ?_
  blk_simp
  rw [after0_4]
  frame_out
  refine point_len V c t y _ _ _ ?_ ?_ ?_ <;> blk_simp [idx t] <;> idx_bounds y <;> (try omega)

end Cert.KernelIdeal.Prep
-- ==== Proof.KHost.lean ====
module

public import proofs.«01_k».proof.Proof.KArr
public import Idealize.ShloMosaic.Lib.Tactic.CleanTypes

@[expose] public section

/-! The host operations between the kernel's two pipelined regions, as four named steps over flat pixel arrays:
    lay the four corner planes out flat, splat the largest offer, gate each corner's share, and add the shares up. -/

set_option maxRecDepth 16384

noncomputable section

namespace Cert.KernelIdeal.Host

open Cert.KernelIdeal Cert.KernelIdeal.Gen
open Idealize.ShloMosaic Idealize.ShloMosaic.TcCoe Idealize.ShloMosaic.Tactic

/-- One corner's plane, flat over the pixels of both images. -/
def row {α : Type} (k : Fin 4) (A : S4x2x384x384.Idx → α) : S294912.Idx → α := fun n =>
  A (ix4 k (⟨(n 0).val / 147456, by have := (n 0).isLt; simp at this; omega⟩ : Fin 2)
    (⟨(n 0).val / 384 % 384, by omega⟩ : Fin 384) (⟨(n 0).val % 384, by omega⟩ : Fin 384))

section Rows

variable {α : Type} (A : S4x2x384x384.Idx → α)

theorem row0 : shapeCast S294912 (extractStridedSlice S1x294912 ![0, 0] (shapeCast S4x294912 A shapeCasts_S4x2x384x384_S4x294912)
    slices_S4x294912_S1x294912_0_0) shapeCasts_S1x294912_S294912 = row 0 A := by
  funext j; idx_vars j; simp only [row]; pointwise!

theorem row1 : shapeCast S294912 (extractStridedSlice S1x294912 ![1, 0] (shapeCast S4x294912 A shapeCasts_S4x2x384x384_S4x294912)
    slices_S4x294912_S1x294912_1_0) shapeCasts_S1x294912_S294912 = row 1 A := by
  funext j; idx_vars j; simp only [row]; pointwise!

theorem row2 : shapeCast S294912 (extractStridedSlice S1x294912 ![2, 0] (shapeCast S4x294912 A shapeCasts_S4x2x384x384_S4x294912)
    slices_S4x294912_S1x294912_2_0) shapeCasts_S1x294912_S294912 = row 2 A := by
  funext j; idx_vars j; simp only [row]; pointwise!

theorem row3 : shapeCast S294912 (extractStridedSlice S1x294912 ![3, 0] (shapeCast S4x294912 A shapeCasts_S4x2x384x384_S4x294912)
    slices_S4x294912_S1x294912_3_0) shapeCasts_S1x294912_S294912 = row 3 A := by
  funext j; idx_vars j; simp only [row]; pointwise!

end Rows

/-- Flat positions as a column of scatter or gather indices, a negative one counted from the end. -/
abbrev col (i : IVec S294912 32) : IVec S294912x1 32 :=
  broadcastInDim S294912x1 ![0] bcast_S294912_S294912x1_0
    (select (cmpi .slt i (broadcastInDim S294912 ![] bcast_S_S294912 (constantI S_ 32 0#32)))
      (addi i (broadcastInDim S294912 ![] bcast_S_S294912 (constantI S_ 32 294912#32))) i)

/-- One round of the largest-offer splat. -/
abbrev raise (d i u : IVec S294912 32) : IVec S294912 32 :=
  Host.scatter scatter_S294912_S294912x1_S294912_n_0_0_1 IntOp.maxsi d (col i) u

/-- The largest offer each pixel receives, over the four corners. -/
def largest (I D : S4x2x384x384.Idx → BitVec 32) : IVec S294912 32 :=
  raise (raise (raise (raise (broadcastInDim S294912 ![] bcast_S_S294912 (constantI S_ 32 0#32)) (row 0 I) (row 0 D))
    (row 1 I) (row 1 D)) (row 2 I) (row 2 D)) (row 3 I) (row 3 D)

/-- Looking each position up in a flat array, a position outside it giving a fill. -/
def take (d i : IVec S294912 32) : IVec S294912 32 :=
  select (Host.reduce IntOp.andi
      (andi (cmpi .sge (col i) (broadcastInDim S294912x1 ![] bcast_S_S294912x1 (constantI S_ 32 0#32)))
        (cmpi .sle (col i) (broadcastInDim S294912x1 ![0, 1] bcast_S1x1_S294912x1_0_1
          (broadcastInDim S1x1 ![1] bcast_S1_S1x1_1 (constantI S1 32 294911#32)))))
      (constantI S_ 1 1#1) reducesTo_S294912x1_S294912_d1 h_S_)
    (Host.gather gather_S294912_S294912x1_S294912_n_0_n_n_0_1_1 d (col i))
    (broadcastInDim S294912 ![] bcast_S_S294912 (constantI S_ 32 2147483648#32))

/-- A corner's share, kept when the largest offer at its pixel is within the threshold of its own length. -/
def gate (g l : IVec S294912 32) (s : FVec Ideal S294912 .f32) : FVec Ideal S294912 .f32 :=
  select (cmpi .sle (subi g l) (broadcastInDim S294912 ![] bcast_S_S294912 (constantI S_ 32 25#32))) s
    (broadcastInDim S294912 ![] bcast_S_S294912 (id (constant S_ .f32 0x00000000#32)))

/-- One round of adding shares up. -/
abbrev add (w : FVec Ideal S294912 .f32) (i : IVec S294912 32) (s : FVec Ideal S294912 .f32) : FVec Ideal S294912 .f32 :=
  Host.scatterAdd scatter_S294912_S294912x1_S294912_n_0_0_1 w (col i) s

/-- What a stretch between two rounds leaves standing: the corner planes, the lengths and the largest offers. -/
structure Kept (I D : S4x2x384x384.Idx → BitVec 32) (K : S4x2x384x384.Idx → EReal) (L : IVec S294912 32)
    (V : Valuation τ sig (Elt Ideal)) : Prop where
  v1 : V (Proc.devRef .tc main_v1) = shapeCast S4x294912 I shapeCasts_S4x2x384x384_S4x294912
  v3 : V (Proc.devRef .tc main_v3) = shapeCast S4x294912 K shapeCasts_S4x2x384x384_S4x294912
  v4 : V (Proc.devRef .tc main_v4) = L
  v49 : V (Proc.devRef .tc main_v49) = largest I D

/-- A corner's share, gated. -/
abbrev gated (k : Fin 4) (I D : S4x2x384x384.Idx → BitVec 32) (K : S4x2x384x384.Idx → EReal) (L : IVec S294912 32) :
    FVec Ideal S294912 .f32 := gate (take (largest I D) (row k I)) L (row k K)

section Rounds

variable {I D : S4x2x384x384.Idx → BitVec 32} {K : S4x2x384x384.Idx → EReal} {L : IVec S294912 32}
variable {V : Valuation τ sig (Elt Ideal)} (h : Kept I D K L V)

include h in
set_option maxHeartbeats 2000000 in
/-- Corner 0's gated share. -/
theorem gate0 (hi : V (Proc.devRef .tc main_v52) = row 0 I) :
    StableHlo.after hostOps1_3 (StableHlo.after hostOps1_2 (StableHlo.after hostOps1_1 V)) (Proc.devRef .tc main_v59) = gated 0 I D K L := by
  rw [gated, ← h.v49, ← h.v4, ← hi]
  after_results_simp
  simp only [StableHlo.TRef.toBuf, StableHlo.TRef.ofBuf, cast_eq]
  rw [h.v3, ← row0]
  unfold gate take
  rfl

include h in
set_option maxHeartbeats 2000000 in
/-- The shares added up after corner 0. -/
theorem sum0 {w s : FVec Ideal S294912 .f32} (hw : V (Proc.devRef .tc main_v50) = w) (hs : V (Proc.devRef .tc main_v59) = s) :
    StableHlo.after hostOps1_4 V (Proc.devRef .tc main_v68) = add w (row 0 I) s := by
  rw [← hw, ← hs]
  after_results_simp
  rw [h.v1, ← row0]
  rfl

include h in
set_option maxHeartbeats 2000000 in
theorem next0 : StableHlo.after hostOps1_4 V (Proc.devRef .tc main_v70) = row 1 I := by
  after_results_simp
  rw [h.v1, ← row1]
  rfl

include h in
set_option maxHeartbeats 2000000 in
/-- Corner 1's gated share. -/
theorem gate1 (hi : V (Proc.devRef .tc main_v70) = row 1 I) :
    StableHlo.after hostOps1_7 (StableHlo.after hostOps1_6 (StableHlo.after hostOps1_5 V)) (Proc.devRef .tc main_v77) = gated 1 I D K L := by
  rw [gated, ← h.v49, ← h.v4, ← hi]
  after_results_simp
  simp only [StableHlo.TRef.toBuf, StableHlo.TRef.ofBuf, cast_eq]
  rw [h.v3, ← row1]
  unfold gate take
  rfl

include h in
set_option maxHeartbeats 2000000 in
/-- The shares added up after corner 1. -/
theorem sum1 {w s : FVec Ideal S294912 .f32} (hw : V (Proc.devRef .tc main_v68) = w) (hs : V (Proc.devRef .tc main_v77) = s) :
    StableHlo.after hostOps1_8 V (Proc.devRef .tc main_v86) = add w (row 1 I) s := by
  rw [← hw, ← hs]
  after_results_simp
  rw [h.v1, ← row1]
  rfl

include h in
set_option maxHeartbeats 2000000 in
theorem next1 : StableHlo.after hostOps1_8 V (Proc.devRef .tc main_v88) = row 2 I := by
  after_results_simp
  rw [h.v1, ← row2]
  rfl

include h in
set_option maxHeartbeats 2000000 in
/-- Corner 2's gated share. -/
theorem gate2 (hi : V (Proc.devRef .tc main_v88) = row 2 I) :
    StableHlo.after hostOps1_11 (StableHlo.after hostOps1_10 (StableHlo.after hostOps1_9 V)) (Proc.devRef .tc main_v95) = gated 2 I D K L := by
  rw [gated, ← h.v49, ← h.v4, ← hi]
  after_results_simp
  simp only [StableHlo.TRef.toBuf, StableHlo.TRef.ofBuf, cast_eq]
  rw [h.v3, ← row2]
  unfold gate take
  rfl

include h in
set_option maxHeartbeats 2000000 in
/-- The shares added up after corner 2. -/
theorem sum2 {w s : FVec Ideal S294912 .f32} (hw : V (Proc.devRef .tc main_v86) = w) (hs : V (Proc.devRef .tc main_v95) = s) :
    StableHlo.after hostOps1_12 V (Proc.devRef .tc main_v104) = add w (row 2 I) s := by
  rw [← hw, ← hs]
  after_results_simp
  rw [h.v1, ← row2]
  rfl

include h in
set_option maxHeartbeats 2000000 in
theorem next2 : StableHlo.after hostOps1_12 V (Proc.devRef .tc main_v106) = row 3 I := by
  after_results_simp
  rw [h.v1, ← row3]
  rfl

include h in
set_option maxHeartbeats 2000000 in
/-- Corner 3's gated share. -/
theorem gate3 (hi : V (Proc.devRef .tc main_v106) = row 3 I) :
    StableHlo.after hostOps1_15 (StableHlo.after hostOps1_14 (StableHlo.after hostOps1_13 V)) (Proc.devRef .tc main_v113) = gated 3 I D K L := by
  rw [gated, ← h.v49, ← h.v4, ← hi]
  after_results_simp
  simp only [StableHlo.TRef.toBuf, StableHlo.TRef.ofBuf, cast_eq]
  rw [h.v3, ← row3]
  unfold gate take
  rfl

end Rounds

section Read

variable (m : (ℓ : Loc nD τ sig) → Buf (Elt Ideal) ℓ) (ρ : Dev nD → PrngReg) (c : Dev nD)

/-- The target cells the first region wrote. -/
abbrev I : S4x2x384x384.Idx → BitVec 32 := W1 m ρ c (Proc.devRef .tc main_v0_0)
/-- The offers it wrote. -/
abbrev D : S4x2x384x384.Idx → BitVec 32 := W1 m ρ c (Proc.devRef .tc main_v0_1)
/-- The shares it wrote. -/
abbrev K : S4x2x384x384.Idx → EReal := W1 m ρ c (Proc.devRef .tc main_v0_2)
/-- The lengths it wrote, flat. -/
abbrev L : IVec S294912 32 :=
  shapeCast S294912 (W1 m ρ c (Proc.devRef .tc main_v0_3) : S2x384x384.Idx → BitVec 32) shapeCasts_S2x384x384_S294912

set_option maxHeartbeats 2000000 in
/-- After the first stretch. -/
theorem kept2 : Kept (I m ρ c) (D m ρ c) (K m ρ c) (L m ρ c) (W2 m ρ c) := by
  constructor
  · show StableHlo.after hostOps1 _ _ = _
    after_results_simp
    rfl
  · show StableHlo.after hostOps1 _ _ = _
    after_results_simp
    rfl
  · show StableHlo.after hostOps1 _ _ = _
    after_results_simp
    rfl
  · show StableHlo.after hostOps1 _ _ = _
    after_results_simp
    simp only [largest, ← row0, ← row1, ← row2, ← row3]
    rfl

set_option maxHeartbeats 2000000 in
theorem zero2 : W2 m ρ c (Proc.devRef .tc main_v50) = broadcastInDim S294912 ![] bcast_S_S294912 (constant S_ .f32 0x00000000#32 : FVec Ideal S_ .f32) := by
  show StableHlo.after hostOps1 _ _ = _
  after_results_simp

set_option maxHeartbeats 2000000 in
theorem first2 : W2 m ρ c (Proc.devRef .tc main_v52) = row 0 (I m ρ c) := by
  show StableHlo.after hostOps1 _ _ = _
  after_results_simp
  exact row0 _

end Read

end Cert.KernelIdeal.Host
-- ==== Proof.KRead.lean ====
module

public import proofs.«01_k».proof.Proof.KHost

@[expose] public section

/-! The buffers the second pipelined region reads, in terms of the four arrays the first one wrote and the image. -/

set_option maxRecDepth 16384

noncomputable section

namespace Cert.KernelIdeal.Host

open Cert.KernelIdeal Cert.KernelIdeal.Gen
open Idealize.ShloMosaic Idealize.ShloMosaic.TcCoe Idealize.ShloMosaic.Tactic

/-- The image laid out one pixel a row, its channels along the row. -/
def pixels (A : FVec Ideal S2x96x384x384 .f32) : FVec Ideal S294912x96 .f32 :=
  shapeCast S294912x96 (transpose S2x147456x96 [0, 2, 1] (shapeCast S2x96x147456 A shapeCasts_S2x96x384x384_S2x96x147456)
    transposes_S2x96x147456_S2x147456x96_0_2_1) shapeCasts_S2x147456x96_S294912x96

/-- One round of adding weighted pixel rows up. -/
def addRows (acc : FVec Ideal S294912x96 .f32) (i : IVec S294912 32) (s : FVec Ideal S294912 .f32) (A : FVec Ideal S294912x96 .f32) :
    FVec Ideal S294912x96 .f32 :=
  Host.scatterAdd scatter_S294912x96_S294912x1_S294912x96_1_0_0_1 acc (col i)
    (mulf A (broadcastInDim S294912x96 ![0, 1] bcast_S294912x1_S294912x96_0_1 (broadcastInDim S294912x1 ![0] bcast_S294912_S294912x1_0 s)))

/-- Pixel rows laid back out as an image. -/
def image (B : FVec Ideal S294912x96 .f32) : FVec Ideal S2x96x384x384 .f32 :=
  shapeCast S2x96x384x384 (transpose S2x96x147456 [0, 2, 1] (shapeCast S2x147456x96 B shapeCasts_S294912x96_S2x147456x96)
    transposes_S2x147456x96_S2x96x147456_0_2_1) shapeCasts_S2x96x147456_S2x96x384x384

/-- The shares added up. -/
def total (I : S4x2x384x384.Idx → BitVec 32) (s : Fin 4 → FVec Ideal S294912 .f32) : FVec Ideal S294912 .f32 :=
  add (add (add (add (broadcastInDim S294912 ![] bcast_S_S294912 (constant S_ .f32 0x00000000#32 : FVec Ideal S_ .f32)) (row 0 I) (s 0))
    (row 1 I) (s 1)) (row 2 I) (s 2)) (row 3 I) (s 3)

/-- The weighted pixel rows added up. -/
def totalRows (I : S4x2x384x384.Idx → BitVec 32) (s : Fin 4 → FVec Ideal S294912 .f32) (A : FVec Ideal S2x96x384x384 .f32) :
    FVec Ideal S294912x96 .f32 :=
  addRows (addRows (addRows (addRows
    (broadcastInDim S294912x96 ![] bcast_S_S294912x96 (constant S_ .f32 0x00000000#32 : FVec Ideal S_ .f32))
    (row 0 I) (s 0) (pixels A)) (row 1 I) (s 1) (pixels A)) (row 2 I) (s 2) (pixels A)) (row 3 I) (s 3) (pixels A)

/-- Half the total, at each pixel of each image. -/
def half (w : FVec Ideal S294912 .f32) : FVec Ideal S2x1x384x384 .f32 :=
  shapeCast S2x1x384x384 (mulf w (broadcastInDim S294912 ![] bcast_S_S294912 (constant S_ .f32 0x3F000000#32))) shapeCasts_S294912_S2x1x384x384

section Last

variable {I D : S4x2x384x384.Idx → BitVec 32} {K : S4x2x384x384.Idx → EReal} {L : IVec S294912 32}
variable {V : Valuation τ sig (Elt Ideal)} (h : Kept I D K L V)

set_option maxHeartbeats 4000000 in
include h in
theorem last_v177 {A : FVec Ideal S2x96x384x384 .f32} {s : Fin 4 → FVec Ideal S294912 .f32} (hA : V (Proc.devRef .tc main_arg0) = A)
    (h0 : V (Proc.devRef .tc main_v59) = s 0) (h1 : V (Proc.devRef .tc main_v77) = s 1)
    (h2 : V (Proc.devRef .tc main_v95) = s 2) (h3 : V (Proc.devRef .tc main_v113) = s 3) :
    StableHlo.after hostOps1_16 V (Proc.devRef .tc main_v177) = image (totalRows I s A) := by
  after_results_simp
  simp only [h.v1, hA, h0, h1, h2, h3]
  unfold totalRows image addRows pixels
  simp only [← row0, ← row1, ← row2, ← row3]
  rfl

set_option maxHeartbeats 4000000 in
include h in
theorem last_v178 : StableHlo.after hostOps1_16 V (Proc.devRef .tc main_v178)
    = shapeCast S2x1x384x384 (largest I D) shapeCasts_S294912_S2x1x384x384 := by
  after_results_simp
  rw [h.v49]
  rfl

set_option maxHeartbeats 4000000 in
include h in
theorem last_w {w s : FVec Ideal S294912 .f32} (hw : V (Proc.devRef .tc main_v104) = w) (hs : V (Proc.devRef .tc main_v113) = s) :
    StableHlo.after hostOps1_16 V (Proc.devRef .tc main_v181) = half (add w (row 3 I) s)
    ∧ StableHlo.after hostOps1_16 V (Proc.devRef .tc main_v182) = half (add w (row 3 I) s) := by
  constructor
  · after_results_simp
    simp only [h.v1, hw, hs]
    unfold half
    simp only [← row3]
    rfl
  · after_results_simp
    simp only [h.v1, hw, hs]
    unfold half
    simp only [← row3]
    rfl

end Last

section Read

variable (m : (ℓ : Loc nD τ sig) → Buf (Elt Ideal) ℓ) (ρ : Dev nD → PrngReg) (c : Dev nD)

/-- The gated shares. -/
abbrev S (k : Fin 4) : FVec Ideal S294912 .f32 := gated k (I m ρ c) (D m ρ c) (K m ρ c) (L m ρ c)

theorem W5_of_W2 (r : Ref sig .tc) (h : r ∉ hostOps1_1_W ++ hostOps1_2_W ++ hostOps1_3_W) :
    W5 m ρ c (Proc.devRef .tc r) = W2 m ρ c (Proc.devRef .tc r) := by
  simp only [List.mem_append, not_or] at h
  rw [W5_of m ρ c r h.2, W4_of m ρ c r h.1.2, W3_of m ρ c r h.1.1]

theorem W9_of_W6 (r : Ref sig .tc) (h : r ∉ hostOps1_5_W ++ hostOps1_6_W ++ hostOps1_7_W) :
    W9 m ρ c (Proc.devRef .tc r) = W6 m ρ c (Proc.devRef .tc r) := by
  simp only [List.mem_append, not_or] at h
  rw [W9_of m ρ c r h.2, W8_of m ρ c r h.1.2, W7_of m ρ c r h.1.1]

theorem W13_of_W10 (r : Ref sig .tc) (h : r ∉ hostOps1_9_W ++ hostOps1_10_W ++ hostOps1_11_W) :
    W13 m ρ c (Proc.devRef .tc r) = W10 m ρ c (Proc.devRef .tc r) := by
  simp only [List.mem_append, not_or] at h
  rw [W13_of m ρ c r h.2, W12_of m ρ c r h.1.2, W11_of m ρ c r h.1.1]

theorem W17_of_W14 (r : Ref sig .tc) (h : r ∉ hostOps1_13_W ++ hostOps1_14_W ++ hostOps1_15_W) :
    W17 m ρ c (Proc.devRef .tc r) = W14 m ρ c (Proc.devRef .tc r) := by
  simp only [List.mem_append, not_or] at h
  rw [W17_of m ρ c r h.2, W16_of m ρ c r h.1.2, W15_of m ρ c r h.1.1]

/-- What stands after one stretch stands after the next, when the next writes none of it. -/
theorem Kept.mono {I D : S4x2x384x384.Idx → BitVec 32} {K : S4x2x384x384.Idx → EReal} {L : IVec S294912 32}
    {V V' : Valuation τ sig (Elt Ideal)} (h : Kept I D K L V) (l : List (Ref sig .tc))
    (hl : main_v1 ∉ l ∧ main_v3 ∉ l ∧ main_v4 ∉ l ∧ main_v49 ∉ l)
    (hV : ∀ r, r ∉ l → V' (Proc.devRef .tc r) = V (Proc.devRef .tc r)) : Kept I D K L V' :=
  ⟨(hV _ hl.1).trans h.v1, (hV _ hl.2.1).trans h.v3, (hV _ hl.2.2.1).trans h.v4, (hV _ hl.2.2.2).trans h.v49⟩

theorem kept5 : Kept (I m ρ c) (D m ρ c) (K m ρ c) (L m ρ c) (W5 m ρ c) :=
  (kept2 m ρ c).mono _ (by decide +kernel) (W5_of_W2 m ρ c)

theorem kept6 : Kept (I m ρ c) (D m ρ c) (K m ρ c) (L m ρ c) (W6 m ρ c) :=
  (kept5 m ρ c).mono _ (by decide +kernel) (W6_of m ρ c)

theorem kept9 : Kept (I m ρ c) (D m ρ c) (K m ρ c) (L m ρ c) (W9 m ρ c) :=
  (kept6 m ρ c).mono _ (by decide +kernel) (W9_of_W6 m ρ c)

theorem kept10 : Kept (I m ρ c) (D m ρ c) (K m ρ c) (L m ρ c) (W10 m ρ c) :=
  (kept9 m ρ c).mono _ (by decide +kernel) (W10_of m ρ c)

theorem kept13 : Kept (I m ρ c) (D m ρ c) (K m ρ c) (L m ρ c) (W13 m ρ c) :=
  (kept10 m ρ c).mono _ (by decide +kernel) (W13_of_W10 m ρ c)

theorem kept14 : Kept (I m ρ c) (D m ρ c) (K m ρ c) (L m ρ c) (W14 m ρ c) :=
  (kept13 m ρ c).mono _ (by decide +kernel) (W14_of m ρ c)

theorem kept17 : Kept (I m ρ c) (D m ρ c) (K m ρ c) (L m ρ c) (W17 m ρ c) :=
  (kept14 m ρ c).mono _ (by decide +kernel) (W17_of_W14 m ρ c)

theorem share0 : W5 m ρ c (Proc.devRef .tc main_v59) = S m ρ c 0 := gate0 (kept2 m ρ c) (first2 m ρ c)

theorem share1 : W9 m ρ c (Proc.devRef .tc main_v77) = S m ρ c 1 := gate1 (kept6 m ρ c) (next0 (kept5 m ρ c))

theorem share2 : W13 m ρ c (Proc.devRef .tc main_v95) = S m ρ c 2 := gate2 (kept10 m ρ c) (next1 (kept9 m ρ c))

theorem share3 : W17 m ρ c (Proc.devRef .tc main_v113) = S m ρ c 3 := gate3 (kept14 m ρ c) (next2 (kept13 m ρ c))

/-- The shares added up after the first corners, corner by corner. -/
theorem sums : W14 m ρ c (Proc.devRef .tc main_v104) = add (add (add (broadcastInDim S294912 ![] bcast_S_S294912
    (constant S_ .f32 0x00000000#32 : FVec Ideal S_ .f32)) (row 0 (I m ρ c)) (S m ρ c 0)) (row 1 (I m ρ c)) (S m ρ c 1)) (row 2 (I m ρ c)) (S m ρ c 2) := by
  have h0 : W6 m ρ c (Proc.devRef .tc main_v68) = _ :=
    sum0 (kept5 m ρ c) ((W5_of_W2 m ρ c _ (by decide +kernel)).trans (zero2 m ρ c)) (share0 m ρ c)
  have h1 : W10 m ρ c (Proc.devRef .tc main_v86) = _ :=
    sum1 (kept9 m ρ c) ((W9_of_W6 m ρ c _ (by decide +kernel)).trans h0) (share1 m ρ c)
  exact sum2 (kept13 m ρ c) ((W13_of_W10 m ρ c _ (by decide +kernel)).trans h1) (share2 m ρ c)

theorem W17_v59 : W17 m ρ c (Proc.devRef .tc main_v59) = S m ρ c 0 :=
  (W17_of_W14 m ρ c _ (by decide +kernel)).trans <| (W14_of m ρ c _ (by decide +kernel)).trans <|
  (W13_of_W10 m ρ c _ (by decide +kernel)).trans <| (W10_of m ρ c _ (by decide +kernel)).trans <|
  (W9_of_W6 m ρ c _ (by decide +kernel)).trans <| (W6_of m ρ c _ (by decide +kernel)).trans (share0 m ρ c)

theorem W17_v77 : W17 m ρ c (Proc.devRef .tc main_v77) = S m ρ c 1 :=
  (W17_of_W14 m ρ c _ (by decide +kernel)).trans <| (W14_of m ρ c _ (by decide +kernel)).trans <|
  (W13_of_W10 m ρ c _ (by decide +kernel)).trans <| (W10_of m ρ c _ (by decide +kernel)).trans (share1 m ρ c)

theorem W17_v95 : W17 m ρ c (Proc.devRef .tc main_v95) = S m ρ c 2 :=
  (W17_of_W14 m ρ c _ (by decide +kernel)).trans <| (W14_of m ρ c _ (by decide +kernel)).trans (share2 m ρ c)

/-- The image, still as launched. -/
abbrev img : FVec Ideal S2x96x384x384 .f32 := m ((c : Thread nD τ).loc main_arg0)

/-- The image buffer the second region reads. -/
theorem W18_v177 : W18 m ρ c (Proc.devRef .tc main_v177) = image (totalRows (I m ρ c) (S m ρ c) (img m c)) :=
  last_v177 (kept17 m ρ c) (W17_args m ρ c _ (by decide)) (W17_v59 m ρ c) (W17_v77 m ρ c) (W17_v95 m ρ c) (share3 m ρ c)

/-- The largest offers, kept to the end. -/
theorem W18_v178 : W18 m ρ c (Proc.devRef .tc main_v178)
    = shapeCast S2x1x384x384 (largest (I m ρ c) (D m ρ c)) shapeCasts_S294912_S2x1x384x384 :=
  last_v178 (kept17 m ρ c)

theorem W18_w : W18 m ρ c (Proc.devRef .tc main_v181) = half (total (I m ρ c) (S m ρ c))
    ∧ W18 m ρ c (Proc.devRef .tc main_v182) = half (total (I m ρ c) (S m ρ c)) :=
  last_w (kept17 m ρ c) ((W17_of_W14 m ρ c _ (by decide +kernel)).trans (sums m ρ c)) (share3 m ρ c)

end Read

end Cert.KernelIdeal.Host
-- ==== Proof.KFin.lean ====
module

public import proofs.«01_k».proof.Proof.KRead

@[expose] public section

/-! The second pipelined region's three arrays, whole, in terms of the three it reads. -/

set_option maxRecDepth 16384

noncomputable section

namespace Cert.KernelIdeal.Fin

open Cert.KernelIdeal Cert.KernelIdeal.Gen
open Idealize.ShloMosaic Idealize.ShloMosaic.TcCoe
open Idealize.ShloMosaic.Pipeline (Dat)

/-- The averaged weight, from the two halves of the total. -/
def avg (a b : EReal) : EReal := (a + b) * ((96⁻¹ : ℝ) : EReal)

variable (V : (c : Dev nD) → (b : Ref sig .tc) → Buf (Elt Ideal) ((c : Thread nD τ).loc b)) (c : Dev nD)

/-- The image buffer the region finds. -/
abbrev im : FVec Ideal S2x96x384x384 .f32 := V c main_v177
/-- The first half of the total weight. -/
abbrev wa : FVec Ideal S2x1x384x384 .f32 := V c main_v181
/-- The second half. -/
abbrev wb : FVec Ideal S2x1x384x384 .f32 := V c main_v182

/-- The averaged weight at a pixel. -/
def wg (b : Fin 2) (y x : Fin 384) : EReal := avg (wa V c (ix4 b 0 y x)) (wb V c (ix4 b 0 y x))

/-- Where each window's block lies. -/
theorem idx : ∀ t : Fin cfg1.N, win1_0.index t = ![(grid1.coords t 0).val, (grid1.coords t 1).val, 0, 0]
    ∧ win1_1.index t = ![(grid1.coords t 0).val, 0, 0, 0] ∧ win1_2.index t = ![(grid1.coords t 0).val, 0, 0, 0]
    ∧ win1_3.index t = ![(grid1.coords t 0).val, (grid1.coords t 1).val, 0, 0]
    ∧ win1_4.index t = ![(grid1.coords t 0).val, 0, 0, 0] ∧ win1_5.index t = ![(grid1.coords t 0).val, 0, 0, 0]
    ∧ (grid1.coords t 0).val < 2 ∧ (grid1.coords t 1).val < 96 :=
  (by decide +kernel : ∀ t : Fin grid1.N, _)

theorem blk0_at (t : Fin cfg1.N) (b : Fin 2) (ch : Fin 96) (y x : Fin 384) (hb : b.val = (grid1.coords t 0).val)
    (hc : ch.val = (grid1.coords t 1).val) :
    (iblk1 V c 0 t : FVec Ideal S1x1x384x384 .f32) (ix4 0 0 y x) = im V c (ix4 b ch y x) := by
  blk_ext [iblk1, im, idx t, hb, hc]

theorem blk1_at (t : Fin cfg1.N) (b : Fin 2) (y x : Fin 384) (hb : b.val = (grid1.coords t 0).val) :
    (iblk1 V c 1 t : FVec Ideal S1x1x384x384 .f32) (ix4 0 0 y x) = wa V c (ix4 b 0 y x) := by
  blk_ext [iblk1, wa, idx t, hb]

theorem blk2_at (t : Fin cfg1.N) (b : Fin 2) (y x : Fin 384) (hb : b.val = (grid1.coords t 0).val) :
    (iblk1 V c 2 t : FVec Ideal S1x1x384x384 .f32) (ix4 0 0 y x) = wb V c (ix4 b 0 y x) := by
  blk_ext [iblk1, wb, idx t, hb]

section Payload

variable (t : Fin cfg1.N) (z : S1x1x384x384.Idx) (b : Fin 2) (y x : Fin 384) (hb : b.val = (grid1.coords t 0).val)
  (hy : y.val = (z 2).val) (hx : x.val = (z 3).val)

include hb hy hx

theorem wg_at : k1_pay1 (F := Ideal) (iblk1 V c 1 t) (iblk1 V c 2 t) z = wg V c b y x := by
  obtain ⟨o, o', r, s, rfl⟩ : ∃ o o' r s, z = ix4 o o' r s := ⟨_, _, _, _, eq_ix4 z⟩
  obtain rfl : y = r := Fin.ext hy
  obtain rfl : x = s := Fin.ext hx
  obtain rfl : o = 0 := Subsingleton.elim _ _
  obtain rfl : o' = 0 := Subsingleton.elim _ _
  have e : (Named.named κ "inv_channels" 0x3C2AAAAB#32 : Ideal .f32) = ((96⁻¹ : ℝ) : EReal) :=
    IdealRules.named_const.ideal_named_scalar _ _ _ _ rfl
  rw [wg, avg, ← blk1_at V c t b _ _ hb, ← blk2_at V c t b _ _ hb, ← e]
  pointwise [k1_pay1]

theorem dis_at : k1_pay3 (F := Ideal) (iblk1 V c 1 t) (iblk1 V c 2 t) z
    = Scalar.select (FloatOps.cmpf .olt (wg V c b y x) (FloatOps.ofBits (F := Ideal) .f32 0x33D6BF95#32))
        (FloatOps.ofBits (F := Ideal) .f32 0x3F800000#32) (FloatOps.ofBits (F := Ideal) .f32 0x00000000#32) := by
  rw [← wg_at V c t z b y x hb hy hx]
  rfl

theorem im1_at (ch : Fin 96) (hc : ch.val = (grid1.coords t 1).val) :
    k1_pay2 (F := Ideal) (iblk1 V c 1 t) (iblk1 V c 2 t) (iblk1 V c 0 t) z
    = Ideal.div (im V c (ix4 b ch y x)) (max (wg V c b y x) (FloatOps.ofBits (F := Ideal) .f32 0x358637BD#32)) := by
  rw [← wg_at V c t z b y x hb hy hx]
  obtain ⟨o, o', r, s, rfl⟩ : ∃ o o' r s, z = ix4 o o' r s := ⟨_, _, _, _, eq_ix4 z⟩
  obtain rfl : y = r := Fin.ext hy
  obtain rfl : x = s := Fin.ext hx
  obtain rfl : o = 0 := Subsingleton.elim _ _
  obtain rfl : o' = 0 := Subsingleton.elim _ _
  rw [← blk0_at V c t b ch _ _ hb hc]
  pointwise [k1_pay2]

end Payload

theorem arr_im1 : (dat1 V c).arrAt 3 cfg1.N = fun j => Ideal.div (im V c j)
    (max (wg V c (j 0) (j 2) (j 3)) (FloatOps.ofBits (F := Ideal) .f32 0x358637BD#32)) := by
  refine (dat1 V c).arrAt_eq_of_covers 3 _ (by decide +kernel) fun t _ y => ?_
  blk_simp
  rw [after1_3]
  frame_out
  refine (im1_at V c t y _ _ _ ?_ ?_ ?_ _ ?_).trans (congrArg₂ Ideal.div (congrArg (im V c) (eq_ix4 _).symm) rfl)
   <;> blk_simp [idx t] <;> idx_bounds y <;> (try omega)

theorem arr_dis : (dat1 V c).arrAt 4 cfg1.N = fun j =>
    Scalar.select (FloatOps.cmpf .olt (wg V c (j 0) (j 2) (j 3)) (FloatOps.ofBits (F := Ideal) .f32 0x33D6BF95#32))
        (FloatOps.ofBits (F := Ideal) .f32 0x3F800000#32) (FloatOps.ofBits (F := Ideal) .f32 0x00000000#32) := by
  refine (dat1 V c).arrAt_eq_of_covers 4 _ (by decide +kernel) fun t _ y => ?_
  blk_simp
  rw [after1_4]
  frame_out
  refine dis_at V c t y _ _ _ ?_ ?_ ?_ <;> blk_simp [idx t] <;> idx_bounds y <;> (try omega)

theorem arr_wg : (dat1 V c).arrAt 5 cfg1.N = fun j => wg V c (j 0) (j 2) (j 3) := by
  refine (dat1 V c).arrAt_eq_of_covers 5 _ (by decide +kernel) fun t _ y => ?_
  blk_simp
  rw [after1_5]
  frame_out
  refine wg_at V c t y _ _ _ ?_ ?_ ?_ <;> blk_simp [idx t] <;> idx_bounds y <;> (try omega)

end Cert.KernelIdeal.Fin
-- ==== Proof.Cells.lean ====
module

public import proofs.«01_k».proof.Proof.KRead
public import Idealize.ShloMosaic.Lib.Routing.Ops
public import Idealize.ShloMosaic.Lib.Routing.OpsPair
public import Idealize.ShloMosaic.Lib.Routing.OpsOrder
public import Idealize.ShloMosaic.Lib.Routing.OpsSearch
public import Idealize.ShloMosaic.Lib.ReduceAll

@[expose] public section

/-! Every corner's cell is a cell of its own image, so that no index is ever out of range and each look-up finds its cell. -/

set_option maxRecDepth 16384

noncomputable section

namespace Cert.Splat

open Idealize.ShloMosaic

variable (X : FVec Ideal SFlow .f32) (b : Fin 2) (y x : Fin 384) (k : Fin 4)

theorem clip_lt (w : BitVec 32) : (clip w).toNat < 384 := by
  unfold clip IntOp.minsi IntOp.maxsi
  simp only [BitVec.slt_eq_decide, decide_eq_true_eq]
  split_ifs <;> simp [BitVec.toInt_eq_toNat_cond] at * <;> (try split_ifs at *) <;> omega

/-- A corner's cell within its image, as a number. -/
def offN : ℕ := (off X b y x k).toNat

theorem cellOf_lt (r c : BitVec 32) : (cellOf r c).toNat < 147456 := by
  have hr := clip_lt r
  have hc := clip_lt c
  unfold cellOf IntOp.addi IntOp.muli
  rw [BitVec.toNat_add, BitVec.toNat_mul]
  rw [show (384#32 : BitVec 32).toNat = 384 from rfl, Nat.mod_eq_of_lt (a := (clip r).toNat * 384) (by omega), Nat.mod_eq_of_lt (by omega)]
  omega

theorem offN_lt : offN X b y x k < 147456 := by
  unfold offN off
  fin_cases k <;> exact cellOf_lt _ _

theorem off_eq : off X b y x k = BitVec.ofNat 32 (offN X b y x k) := by
  simp [offN]

/-- A corner's cell among the cells of both images, as a number. -/
def cellN : ℕ := b.val * 147456 + offN X b y x k

theorem cellN_lt : cellN X b y x k < 294912 := by
  have := offN_lt X b y x k
  have := b.isLt
  unfold cellN
  omega

theorem cell_eq : cell X b y x k = BitVec.ofNat 32 (cellN X b y x k) := by
  unfold cell cellN
  rw [off_eq]
  apply BitVec.eq_of_toNat_eq
  have := offN_lt X b y x k
  have := b.isLt
  unfold IntOp.addi IntOp.muli
  simp

end Cert.Splat

namespace Cert.KernelIdeal.Host

open Cert.KernelIdeal Cert.KernelIdeal.Gen
open Idealize.ShloMosaic Idealize.ShloMosaic.TcCoe Idealize.ShloMosaic.Tactic

/-- An index that is a position of the array is used as it is. -/
theorem col_ap (i : IVec S294912 32) (p : Fin 294912) {k : ℕ} (hk : k < 294912) (h : i (ix1 p) = BitVec.ofNat 32 k) :
    col i (ix2 p 0) = BitVec.ofNat 32 k := by
  rw [← h]
  pointwise
  exact Routing.wrap_of_lt _ _ (by rw [h]; simp; omega)

variable {α : Type} (d : S294912.Idx → α) (i : IVec S294912 32) (n : S294912.Idx → Fin 294912)
  (hi : ∀ p, i (ix1 p) = BitVec.ofNat 32 (n (ix1 p)).val)

include hi

/-- The range test of a look-up passes everywhere. -/
theorem inside (p : Fin 294912) : Host.reduce IntOp.andi
      (andi (cmpi .sge (col i) (broadcastInDim S294912x1 ![] bcast_S_S294912x1 (constantI S_ 32 0#32)))
        (cmpi .sle (col i) (broadcastInDim S294912x1 ![0, 1] bcast_S1x1_S294912x1_0_1
          (broadcastInDim S1x1 ![1] bcast_S1_S1x1_1 (constantI S1 32 294911#32)))))
      (constantI S_ 1 1#1) reducesTo_S294912x1_S294912_d1 h_S_ (ix1 p) = 1#1 := by
  refine Host.reduce_andi_one _ _ _ _ _ rfl fun j => ?_
  obtain ⟨q, z, rfl⟩ : ∃ q z, j = ix2 q z := ⟨_, _, eq_ix2 j⟩
  obtain rfl : z = 0 := Subsingleton.elim _ _
  show IntOp.andi (IntOp.cmpi .sge (col i (ix2 q 0)) 0#32) (IntOp.cmpi .sle (col i (ix2 q 0)) 294911#32) = 1#1
  rw [col_ap i q (n (ix1 q)).isLt (hi q)]
  have := (n (ix1 q)).isLt
  have e : (BitVec.ofNat 32 (n (ix1 q)).val).toInt = ((n (ix1 q)).val : ℤ) := WordCmp.toInt_ofNat_of_lt (w := 32) (by omega)
  refine IntOp.andi_eq_one.2 ⟨IntOp.cmpi_sge.2 ?_, IntOp.cmpi_sle.2 ?_⟩ <;> rw [e]
  · exact Int.natCast_nonneg _
  · have : (294911#32 : BitVec 32).toInt = 294911 := by decide
    omega

/-- A look-up finds its cell. -/
theorem gather_ap (p : Fin 294912) : Host.gather gather_S294912_S294912x1_S294912_n_0_n_n_0_1_1 d (col i) (ix1 p) = d (ix1 (n (ix1 p))) :=
  Routing.take_ap (N := 294912) (n := 294912) _ rfl rfl rfl rfl d (col i) p (n (ix1 p)).isLt (by have := (n (ix1 p)).isLt; omega)
    (col_ap i p (n (ix1 p)).isLt (hi p))

/-- A look-up with its range test finds its cell, whatever the fill. -/
theorem take_ap (f : S294912.Idx → α) (p : Fin 294912) :
    select (Host.reduce IntOp.andi
      (andi (cmpi .sge (col i) (broadcastInDim S294912x1 ![] bcast_S_S294912x1 (constantI S_ 32 0#32)))
        (cmpi .sle (col i) (broadcastInDim S294912x1 ![0, 1] bcast_S1x1_S294912x1_0_1
          (broadcastInDim S1x1 ![1] bcast_S1_S1x1_1 (constantI S1 32 294911#32)))))
      (constantI S_ 1 1#1) reducesTo_S294912x1_S294912_d1 h_S_)
    (Host.gather gather_S294912_S294912x1_S294912_n_0_n_n_0_1_1 d (col i)) f (ix1 p) = d (ix1 (n (ix1 p))) := by
  show Scalar.select _ _ _ = _
  rw [inside i n hi p, gather_ap d i n hi p]
  rfl

omit hi
open Cert.Splat in
/-- The cell that corner `k` of the pixel at a flat position is sent to, as a flat position. -/
def cellAt (X : FVec Ideal SFlow .f32) (k : Fin 4) (p : S294912.Idx) : Fin 294912 :=
  ⟨cellN X (⟨(p 0).val / 147456, by have := (p 0).isLt; simp at this; omega⟩ : Fin 2)
    (⟨(p 0).val / 384 % 384, by omega⟩ : Fin 384) (⟨(p 0).val % 384, by omega⟩ : Fin 384) k, cellN_lt ..⟩

open Cert.Splat in
theorem row_cells (X : FVec Ideal SFlow .f32) (k : Fin 4) (p : Fin 294912) :
    row k (cells X) (ix1 p) = BitVec.ofNat 32 (cellAt X k (ix1 p)).val := cell_eq ..

open Cert.Splat in
theorem take_cells (X : FVec Ideal SFlow .f32) (k : Fin 4) (d : IVec S294912 32) (p : Fin 294912) :
    take d (row k (cells X)) (ix1 p) = d (ix1 (cellAt X k (ix1 p))) :=
  take_ap d _ _ (row_cells X k) _ p

end Cert.KernelIdeal.Host
-- ==== Proof.Numbers.lean ====
module

public import proofs.«01_k».proof.Proof.Splat

@[expose] public section

/-! The numbers: what the printed constants are, lengths are not negative, and the two forms of the threshold and of the average agree. -/

noncomputable section

namespace Cert.Splat

open Idealize.ShloMosaic

theorem bits_hundred : Ideal.ofBits .f32 0x42C80000#32 = ((100 : ℝ) : EReal) := by
  simp [Ideal.ofBits, Ideal.ieee, -EReal.coe_mul]; norm_num
theorem bits_threshold : Ideal.ofBits .f32 0x41C80000#32 = ((25 : ℝ) : EReal) := by
  simp [Ideal.ofBits, Ideal.ieee, -EReal.coe_mul]; norm_num
theorem bits_half : Ideal.ofBits .f32 0x3F000000#32 = ((2⁻¹ : ℝ) : EReal) := by
  simp [Ideal.ofBits, Ideal.ieee, -EReal.coe_mul]; norm_num
theorem bits_channels : Ideal.ofBits .f32 0x42C00000#32 = ((96 : ℝ) : EReal) := by
  simp [Ideal.ofBits, Ideal.ieee, -EReal.coe_mul]; norm_num

theorem square_nonneg (x : EReal) : 0 ≤ x * x := by
  rcases le_total 0 x with h | h
  · exact EReal.mul_nonneg h h
  · have h' : 0 ≤ -x := EReal.neg_nonneg.2 h
    have := EReal.mul_nonneg h' h'
    rwa [neg_mul_neg] at this

theorem sqrt_nonneg (x : EReal) (h : 0 ≤ x) : 0 ≤ Ideal.sqrt x := by
  induction x using EReal.rec with
  | bot => simp at h
  | top => simp
  | coe r =>
    have hr : 0 ≤ r := by exact_mod_cast h
    show 0 ≤ (if r < 0 then ⊥ else (Real.sqrt r : EReal))
    rw [if_neg (not_lt.2 hr)]
    exact_mod_cast Real.sqrt_nonneg r

/-- A word read off a nonnegative value is not negative. -/
theorem fptosi_nonneg (x : EReal) (h : 0 ≤ x) : 0 ≤ (Ideal.fptosi 32 x).toInt := by
  have key : ∃ z : ℤ, 0 ≤ z ∧ z < 2147483648 ∧ Ideal.fptosi 32 x = BitVec.ofInt 32 z := by
    induction x using EReal.rec with
    | bot => simp at h
    | top => exact ⟨2147483647, by norm_num, by norm_num, rfl⟩
    | coe r =>
      have hr : 0 ≤ r := by exact_mod_cast h
      refine ⟨max (-2147483648) (min 2147483647 (if 0 ≤ r then ⌊r⌋ else ⌈r⌉)), ?_, ?_, rfl⟩
      · rw [if_pos hr]
        exact le_max_of_le_right (le_min (by norm_num) (Int.floor_nonneg.2 hr))
      · exact max_lt (by norm_num) (min_lt_of_left_lt (by norm_num))
  obtain ⟨z, h0, h1, e⟩ := key
  rw [e, BitVec.toInt_ofInt, Int.bmod_eq_of_le (by norm_num; omega) (by norm_num; omega)]
  exact h0

theorem len_nonneg (X : FVec Ideal SFlow .f32) (b : Fin 2) (y x : Fin 384) : 0 ≤ (len X b y x).toInt := by
  refine fptosi_nonneg _ (EReal.mul_nonneg ?_ (sqrt_nonneg _ (add_nonneg (square_nonneg _) (square_nonneg _))))
  rw [bits_hundred]
  exact_mod_cast (by norm_num : (0 : ℝ) ≤ 100)

/-- The threshold on whole hundredths and on the numbers they stand for. -/
theorem threshold (g l : BitVec 32) (hg : 0 ≤ g.toInt) (hl : 0 ≤ l.toInt) :
    FloatOps.cmpf (F := Ideal) (φ := .f32) .ole (FloatOps.sitofp (F := Ideal) .f32 g - FloatOps.sitofp (F := Ideal) .f32 l) (Ideal.ofBits .f32 0x41C80000#32)
      = IntOp.cmpi .sle (IntOp.subi g l) 25#32 := by
  rw [bits_threshold]
  show BitVec.ofBool (decide (((g.toInt : ℝ) : EReal) - ((l.toInt : ℝ) : EReal) ≤ ((25 : ℝ) : EReal))) = BitVec.ofBool ((g - l).sle 25#32)
  congr 1
  rw [BitVec.sle_eq_decide, ← EReal.coe_sub]
  have hg' := g.toInt_lt
  have hl' := l.toInt_lt
  have e : (g - l).toInt = g.toInt - l.toInt := by
    rw [BitVec.toInt_sub, Int.bmod_eq_of_le (by norm_num at *; omega) (by norm_num at *; omega)]
  have e25 : (25#32 : BitVec 32).toInt = 25 := by decide
  rw [e, e25]
  refine decide_eq_decide.2 ?_
  rw [EReal.coe_le_coe_iff]
  exact_mod_cast Iff.rfl

/-- Half a total and half of it again, averaged over the channels, is the total over the channels. -/
theorem average (w : EReal) : (w * Ideal.ofBits .f32 0x3F000000#32 + w * Ideal.ofBits .f32 0x3F000000#32) * ((96⁻¹ : ℝ) : EReal)
    = Ideal.div w (Ideal.ofBits .f32 0x42C00000#32) := by
  rw [bits_half, bits_channels, Ideal.div_coe (by norm_num), one_div]
  induction w using EReal.rec with
  | bot => simp only [EReal.bot_mul_coe_of_pos (show (0 : ℝ) < 2⁻¹ by norm_num), EReal.bot_add]
  | top => simp only [EReal.top_mul_coe_of_pos (show (0 : ℝ) < 2⁻¹ by norm_num), EReal.top_add_top]
  | coe r =>
    norm_cast
    ring_nf

end Cert.Splat
-- ==== Proof.Given.lean ====
module

public import proofs.«01_k».proof.Proof.Cells
public import proofs.«01_k».proof.Proof.Numbers

@[expose] public section

/-! What a corner is given in the end: its share, where it takes part and its pixel's length is near the largest offered to its cell. -/

set_option maxRecDepth 16384

noncomputable section

namespace Cert.Splat

open Cert.KernelIdeal
open Cert.KernelIdeal.Host (row largest gated gate take cellAt take_cells raise)
open Idealize.ShloMosaic Idealize.ShloMosaic.Tactic

variable (X : FVec Ideal SFlow .f32)

/-- A function of the pixel, flat over the pixels of both images. -/
def flat {α : Type} (f : Fin 2 → Fin 384 → Fin 384 → α) : S294912.Idx → α := fun n =>
  f (⟨(n 0).val / 147456, by have := (n 0).isLt; simp at this; omega⟩ : Fin 2)
    (⟨(n 0).val / 384 % 384, by omega⟩ : Fin 384) (⟨(n 0).val % 384, by omega⟩ : Fin 384)

/-- The largest length offered to each cell. -/
def most : IVec S294912 32 := largest (cells X) (offers X)

theorem row_offers_nonneg (k : Fin 4) (p : S294912.Idx) : 0 ≤ (row k (offers X) p).toInt := by
  show 0 ≤ (offer X _ _ _ k).toInt
  unfold offer Scalar.select
  split
  · exact len_nonneg ..
  · decide

/-- No length offered is negative. -/
theorem most_nonneg (p : S294912.Idx) : 0 ≤ (most X p).toInt := by
  have step : ∀ (d i u : IVec S294912 32), (∀ p, 0 ≤ (d p).toInt) → (∀ p, 0 ≤ (u p).toInt) → ∀ p, 0 ≤ (raise d i u p).toInt :=
    fun d i u hd hu p => Routing.scatter_forall _ _ (fun w : BitVec 32 => 0 ≤ w.toInt)
      (fun a b ha hb => by unfold IntOp.maxsi; split <;> assumption) d _ u hd hu p
  have zero : ∀ p, 0 ≤ ((broadcastInDim S294912 ![] Gen.bcast_S_S294912 (constantI S_ 32 0#32) : IVec S294912 32) p).toInt := fun p => by
    show 0 ≤ (0#32 : BitVec 32).toInt
    decide
  unfold most largest
  exact step _ _ _ (step _ _ _ (step _ _ _ (step _ _ _ zero (row_offers_nonneg X 0)) (row_offers_nonneg X 1)) (row_offers_nonneg X 2))
    (row_offers_nonneg X 3) p

variable (b : Fin 2) (y x : Fin 384) (k : Fin 4)

/-- The pixel's length is near the largest offered to its cell. -/
def near : BitVec 1 := IntOp.cmpi .sle (IntOp.subi (most X (ix1 ⟨cellN X b y x k, cellN_lt ..⟩)) (len X b y x)) 25#32

/-- What the corner is given. -/
def given : EReal := share X b y x k * FloatOps.uitofp (F := Ideal) .f32 (IntOp.andi (act X b y x k) (near X b y x k))

theorem given_eq : given X b y x k = Scalar.select (near X b y x k) (kept X b y x k) 0 := by
  unfold given kept
  generalize act X b y x k = p
  generalize near X b y x k = q
  have h : ∀ p q : BitVec 1, FloatOps.uitofp (F := Ideal) .f32 (IntOp.andi p q) = if p = 1#1 ∧ q = 1#1 then (1 : EReal) else 0 := by
    intro p q
    show (((p &&& q).toNat : ℝ) : EReal) = _
    have hp : p = 0#1 ∨ p = 1#1 := by revert p; decide
    have hq : q = 0#1 ∨ q = 1#1 := by revert q; decide
    rcases hp with rfl | rfl <;> rcases hq with rfl | rfl <;> simp
  rw [h]
  have hp : p = 0#1 ∨ p = 1#1 := by revert p; decide
  have hq : q = 0#1 ∨ q = 1#1 := by revert q; decide
  rcases hp with rfl | rfl <;> rcases hq with rfl | rfl <;> simp [Scalar.select]

/-- The kernel's gated share. -/
theorem gated_eq : gated k (cells X) (offers X) (shares X) (flat (len X)) = flat (fun b y x => given X b y x k) := by
  funext n
  obtain ⟨p, rfl⟩ : ∃ p, n = ix1 p := ⟨_, eq_ix1 n⟩
  show _ = given X _ _ _ k
  rw [given_eq]
  show Scalar.select (IntOp.cmpi .sle (IntOp.subi (take (most X) (row k (cells X)) (ix1 p)) (flat (len X) (ix1 p))) 25#32) (row k (shares X) (ix1 p)) (Ideal.ofBits .f32 0x00000000#32) = _
  rw [take_cells, Ideal.ofBits_zero_f32]
  rfl

end Cert.Splat
-- ==== Proof.KOut.lean ====
module

public import proofs.«01_k».proof.Proof.KFin
public import proofs.«01_k».proof.Proof.Given

@[expose] public section

/-! The kernel's five results, in terms of its two arguments. -/

set_option maxRecDepth 16384

noncomputable section

namespace Cert.Splat

open Cert.KernelIdeal Cert.KernelIdeal.Gen Cert.KernelIdeal.Host
open Idealize.ShloMosaic Idealize.ShloMosaic.Tactic

variable (A : FVec Ideal S2x96x384x384 .f32) (X : FVec Ideal SFlow .f32)

/-- What corner `k` of each pixel is given, flat. -/
abbrev handed (k : Fin 4) : FVec Ideal S294912 .f32 := flat (fun b y x => given X b y x k)

/-- The weighted pixels, splatted: the third result. -/
def outSum : FVec Ideal S2x96x384x384 .f32 := image (totalRows (cells X) (handed X) A)

/-- The largest lengths, splatted: the fourth result. -/
def outMost : IVec S2x1x384x384 32 := shapeCast S2x1x384x384 (most X) shapeCasts_S294912_S2x1x384x384

/-- The weight each pixel receives, a channel's worth: the fifth result. -/
def outWeight : FVec Ideal S2x1x384x384 .f32 := fun j =>
  Ideal.div (shapeCast S2x1x384x384 (total (cells X) (handed X)) shapeCasts_S294912_S2x1x384x384 j) (Ideal.ofBits .f32 0x42C00000#32)

/-- The splatted image over its weight: the first result. -/
def outImage : FVec Ideal S2x96x384x384 .f32 := fun j =>
  Ideal.div (outSum A X j) (max (outWeight X (ix4 (j 0) 0 (j 2) (j 3))) (FloatOps.ofBits (F := Ideal) .f32 0x358637BD#32))

/-- Which pixels receive nothing: the second result. -/
def outHoles : FVec Ideal S2x1x384x384 .f32 := fun j =>
  Scalar.select (FloatOps.cmpf .olt (outWeight X j) (FloatOps.ofBits (F := Ideal) .f32 0x33D6BF95#32))
    (FloatOps.ofBits (F := Ideal) .f32 0x3F800000#32) (FloatOps.ofBits (F := Ideal) .f32 0x00000000#32)

end Cert.Splat

namespace Cert.KernelIdeal.Out

open Cert.KernelIdeal Cert.KernelIdeal.Gen Cert.KernelIdeal.Host
open Idealize.ShloMosaic Idealize.ShloMosaic.TcCoe Idealize.ShloMosaic.Tactic
open Cert.Splat

variable (m : (ℓ : Loc nD τ sig) → Buf (Elt Ideal) ℓ) (ρ : Dev nD → PrngReg) (c : Dev nD)

/-- The flow, as launched. -/
abbrev flo : FVec Ideal SFlow .f32 := m ((c : Thread nD τ).loc main_arg1)

theorem I_eq : I m ρ c = cells (flo m c) := (W1_arr m ρ c 1).trans (Prep.arr_cell (V0 m ρ) c)
theorem D_eq : D m ρ c = offers (flo m c) := (W1_arr m ρ c 2).trans (Prep.arr_offer (V0 m ρ) c)
theorem K_eq : K m ρ c = shares (flo m c) := (W1_arr m ρ c 3).trans (Prep.arr_kept (V0 m ρ) c)

theorem L_eq : Host.L m ρ c = flat (len (flo m c)) := by
  have h : W1 m ρ c (Proc.devRef .tc main_v0_3) = _ := (W1_arr m ρ c 4).trans (Prep.arr_len (V0 m ρ) c)
  unfold Host.L
  rw [h]
  funext j
  idx_vars j
  simp only [flat]
  clean_types
  pointwise

theorem S_eq : S m ρ c = handed (flo m c) := by
  funext k
  unfold S
  rw [I_eq, D_eq, K_eq, L_eq]
  exact gated_eq (flo m c) k

theorem v177 : W18 m ρ c (Proc.devRef .tc main_v177) = outSum (img m c) (flo m c) := by
  rw [W18_v177, I_eq, S_eq]
  rfl

theorem v178 : W18 m ρ c (Proc.devRef .tc main_v178) = outMost (flo m c) := by
  rw [W18_v178, I_eq, D_eq]
  rfl

/-- The weight the second region averages is a channel's worth of the total. -/
theorem weight (b : Fin 2) (y x : Fin 384) : Fin.wg (V18 m ρ) c b y x = outWeight (flo m c) (ix4 b 0 y x) := by
  have h1 : Fin.wa (V18 m ρ) c = half (total (cells (flo m c)) (handed (flo m c))) := by
    rw [← I_eq m ρ c, ← S_eq m ρ c]
    exact (W18_w m ρ c).1
  have h2 : Fin.wb (V18 m ρ) c = half (total (cells (flo m c)) (handed (flo m c))) := by
    rw [← I_eq m ρ c, ← S_eq m ρ c]
    exact (W18_w m ρ c).2
  unfold Fin.wg Fin.avg
  rw [h1, h2]
  exact average _

theorem o0 : W19 m ρ c (Proc.devRef .tc main_v183_0) = outImage (img m c) (flo m c) := by
  refine (W19_arr m ρ c 3).trans ((Fin.arr_im1 (V18 m ρ) c).trans ?_)
  have h : Fin.im (V18 m ρ) c = outSum (img m c) (flo m c) := v177 m ρ c
  rw [h]
  funext j
  exact congrArg (fun w => Ideal.div (outSum (img m c) (flo m c) j) (max w (FloatOps.ofBits (F := Ideal) .f32 0x358637BD#32)))
    (weight m ρ c (j 0) (j 2) (j 3))

theorem o1 : W19 m ρ c (Proc.devRef .tc main_v183_1) = outHoles (flo m c) := by
  refine (W19_arr m ρ c 4).trans ((Fin.arr_dis (V18 m ρ) c).trans ?_)
  funext j
  obtain ⟨b, z, y, x, rfl⟩ : ∃ b z y x, j = ix4 b z y x := ⟨_, _, _, _, eq_ix4 j⟩
  obtain rfl : z = 0 := Subsingleton.elim _ _
  exact congrArg (fun w => Scalar.select (FloatOps.cmpf .olt w (FloatOps.ofBits (F := Ideal) .f32 0x33D6BF95#32))
    (FloatOps.ofBits (F := Ideal) .f32 0x3F800000#32) (FloatOps.ofBits (F := Ideal) .f32 0x00000000#32)) (weight m ρ c b y x)

theorem o2 : W19 m ρ c (Proc.devRef .tc main_v177) = outSum (img m c) (flo m c) :=
  (W19_of m ρ c main_v177 (by decide +kernel)).trans (v177 m ρ c)

theorem o3 : W19 m ρ c (Proc.devRef .tc main_v178) = outMost (flo m c) :=
  (W19_of m ρ c main_v178 (by decide +kernel)).trans (v178 m ρ c)

theorem o4 : W19 m ρ c (Proc.devRef .tc main_v183_2) = outWeight (flo m c) := by
  refine (W19_arr m ρ c 5).trans ((Fin.arr_wg (V18 m ρ) c).trans ?_)
  funext j
  obtain ⟨b, z, y, x, rfl⟩ : ∃ b z y x, j = ix4 b z y x := ⟨_, _, _, _, eq_ix4 j⟩
  obtain rfl : z = 0 := Subsingleton.elim _ _
  exact weight m ρ c b y x

end Cert.KernelIdeal.Out
-- ==== Proof.RRead.lean ====
module

public import proofs.«01_k».proof.Proof.KHost
public import proofs.«01_k».proof.Proof.Gen.ReferenceIdeal.Run

@[expose] public section

/-! The reference's arrays, pixel by pixel, in the splat's terms. -/

set_option maxRecDepth 16384

noncomputable section

namespace Cert.ReferenceIdeal.Read

open Cert.ReferenceIdeal Cert.ReferenceIdeal.Gen Cert.ReferenceIdeal.Value
open Idealize.ShloMosaic Idealize.ShloMosaic.TcCoe Idealize.ShloMosaic.Tactic
open Cert.Splat
open Cert.KernelIdeal.Host (row)

variable (V0 : Valuation τ sig (Elt Ideal))

/-- The flow, as launched. -/
abbrev X : FVec Ideal SFlow .f32 := V0 (Proc.devRef .tc main_arg1)

/-- A function of the pixel, as an array. -/
abbrev arr {α : Type} (f : Fin 2 → Fin 384 → Fin 384 → α) : S2x384x384.Idx → α := fun j => f (j 0) (j 1) (j 2)

theorem v10_eq : res_main_v10 V0 = arr (xd (X V0)) := by
  unfold res_main_v10
  funext j
  idx_vars j
  clean_types
  pointwise
  rfl

theorem v13_eq : res_main_v13 V0 = arr (yd (X V0)) := by
  unfold res_main_v13
  funext j
  idx_vars j
  clean_types
  pointwise
  rfl

theorem v24_eq : res_main_v24 V0 = arr (len (X V0)) := by
  unfold res_main_v24 res_main_v15 res_main_v18
  funext j
  idx_vars j
  clean_types
  pointwise
  rfl

theorem v26_eq : res_main_v26 V0 = arr (xl (X V0)) := by
  unfold res_main_v26
  rw [v10_eq]
  funext j
  idx_vars j
  clean_types
  pointwise
  rfl

theorem v28_eq : res_main_v28 V0 = arr (yl (X V0)) := by
  unfold res_main_v28
  rw [v13_eq]
  funext j
  idx_vars j
  clean_types
  pointwise
  rfl

theorem v30_eq : res_main_v30 V0 = arr (xh (X V0)) := by
  unfold res_main_v30
  rw [v26_eq]
  funext j
  idx_vars j
  clean_types
  pointwise
  rfl

theorem v32_eq : res_main_v32 V0 = arr (yh (X V0)) := by
  unfold res_main_v32
  rw [v28_eq]
  funext j
  idx_vars j
  clean_types
  pointwise
  rfl

theorem v37_eq : res_main_v37 V0 = arr (fun b y x => share (X V0) b y x 0) := by
  unfold res_main_v37
  rw [v30_eq, v10_eq, v32_eq, v13_eq]
  funext j
  idx_vars j
  clean_types
  pointwise
  rfl

theorem v42_eq : res_main_v42 V0 = arr (fun b y x => share (X V0) b y x 1) := by
  unfold res_main_v42
  rw [v10_eq, v26_eq, v32_eq, v13_eq]
  funext j
  idx_vars j
  clean_types
  pointwise
  rfl

theorem v47_eq : res_main_v47 V0 = arr (fun b y x => share (X V0) b y x 2) := by
  unfold res_main_v47
  rw [v30_eq, v10_eq, v28_eq, v13_eq]
  funext j
  idx_vars j
  clean_types
  pointwise
  rfl

theorem v52_eq : res_main_v52 V0 = arr (fun b y x => share (X V0) b y x 3) := by
  unfold res_main_v52
  rw [v10_eq, v26_eq, v28_eq, v13_eq]
  funext j
  idx_vars j
  clean_types
  pointwise
  rfl

theorem v57_eq : res_main_v57 V0 = arr (fun b y x => IntOp.muli (BitVec.ofNat 32 b.val) 147456#32) := by
  unfold res_main_v57
  funext j
  idx_vars j
  clean_types
  pointwise
  rfl

theorem v58_eq : res_main_v58 V0 = arr (fun b y x => clip (xl (X V0) b y x)) := by
  unfold res_main_v58
  rw [v26_eq]
  funext j
  idx_vars j
  clean_types
  pointwise
  rfl

theorem v59_eq : res_main_v59 V0 = arr (fun b y x => clip (yl (X V0) b y x)) := by
  unfold res_main_v59
  rw [v28_eq]
  funext j
  idx_vars j
  clean_types
  pointwise
  rfl

theorem v60_eq : res_main_v60 V0 = arr (fun b y x => clip (xh (X V0) b y x)) := by
  unfold res_main_v60
  rw [v30_eq]
  funext j
  idx_vars j
  clean_types
  pointwise
  rfl

theorem v61_eq : res_main_v61 V0 = arr (fun b y x => clip (yh (X V0) b y x)) := by
  unfold res_main_v61
  rw [v32_eq]
  funext j
  idx_vars j
  clean_types
  pointwise
  rfl

theorem v72_eq : res_main_v72 V0 = arr (valid (X V0)) := by
  unfold res_main_v72
  rw [v26_eq, v28_eq, v30_eq, v32_eq]
  funext j
  idx_vars j
  clean_types
  pointwise
  rfl

theorem v75_eq : res_main_v75 V0 = arr (fun b y x => off (X V0) b y x 0) := by
  unfold res_main_v75
  rw [v59_eq, v58_eq]
  funext j
  idx_vars j
  clean_types
  pointwise
  rfl

theorem v78_eq : res_main_v78 V0 = arr (fun b y x => off (X V0) b y x 1) := by
  unfold res_main_v78
  rw [v59_eq, v60_eq]
  funext j
  idx_vars j
  clean_types
  pointwise
  rfl

theorem v81_eq : res_main_v81 V0 = arr (fun b y x => off (X V0) b y x 2) := by
  unfold res_main_v81
  rw [v61_eq, v58_eq]
  funext j
  idx_vars j
  clean_types
  pointwise
  rfl

theorem v84_eq : res_main_v84 V0 = arr (fun b y x => off (X V0) b y x 3) := by
  unfold res_main_v84
  rw [v61_eq, v60_eq]
  funext j
  idx_vars j
  clean_types
  pointwise
  rfl

end Cert.ReferenceIdeal.Read
-- ==== Proof.RFlat.lean ====
module

public import proofs.«01_k».proof.Proof.RRead

@[expose] public section

/-! The reference's arrays, flat over the pixels of both images: each corner's cells and offers. -/

set_option maxRecDepth 16384

noncomputable section

namespace Cert.ReferenceIdeal.Read

open Cert.ReferenceIdeal Cert.ReferenceIdeal.Gen Cert.ReferenceIdeal.Value
open Idealize.ShloMosaic Idealize.ShloMosaic.TcCoe Idealize.ShloMosaic.Tactic
open Cert.Splat
open Cert.KernelIdeal.Host (row)

variable (V0 : Valuation τ sig (Elt Ideal))

section Forms

variable (k : Fin 4)

/-- A corner's cells, laid out flat. -/
theorem flat_cells (A : IVec S2x384x384 32) (hA : A = arr (fun b y x => off (X V0) b y x k)) :
    (shapeCast S294912 (addi (res_main_v57 V0) A) shapeCasts_S2x384x384_S294912 : IVec S294912 32) = row k (cells (X V0)) := by
  rw [v57_eq, hA]
  funext j
  idx_vars j
  simp only [row, cells]
  clean_types
  pointwise
  rfl

/-- The same, formed with an axis of one channel. -/
theorem flat_cells' (A : IVec S2x384x384 32) (hA : A = arr (fun b y x => off (X V0) b y x k)) :
    (shapeCast S294912 (addi (res_main_v172 V0) (broadcastInDim S2x1x384x384 ![0, 2, 3] bcast_S2x384x384_S2x1x384x384_0_2_3 A))
      shapeCasts_S2x1x384x384_S294912 : IVec S294912 32) = row k (cells (X V0)) := by
  unfold res_main_v172
  rw [v57_eq, hA]
  funext j
  idx_vars j
  simp only [row, cells]
  clean_types
  pointwise
  rfl

/-- One corner's offers as the reference forms them, flat. -/
abbrev offerAt (s : FVec Ideal S2x384x384 .f32) : IVec S294912 32 :=
  shapeCast S294912 (select (andi (cmpf .oge s (broadcastInDim S2x384x384 ![] bcast_S_S2x384x384 (constant S_ .f32 0x3E800000#32))) (res_main_v72 V0))
    (res_main_v24 V0) (broadcastInDim S2x384x384 ![] bcast_S_S2x384x384 (constantI S_ 32 0#32))) shapeCasts_S2x384x384_S294912

theorem offerAt_eq (s : FVec Ideal S2x384x384 .f32) (hs : s = arr (fun b y x => share (X V0) b y x k)) :
    offerAt V0 s = row k (offers (X V0)) := by
  unfold offerAt
  rw [hs, v72_eq, v24_eq]
  funext j
  idx_vars j
  simp only [row, offers]
  clean_types
  pointwise
  rfl

end Forms

theorem v95_eq : res_main_v95 V0 = row 0 (cells (X V0)) := flat_cells V0 0 _ (v75_eq V0)
theorem v183_eq : res_main_v183 V0 = row 0 (cells (X V0)) := flat_cells' V0 0 _ (v75_eq V0)
theorem v246_eq : res_main_v246 V0 = row 0 (cells (X V0)) := flat_cells' V0 0 _ (v75_eq V0)
theorem offer0_eq : offerAt V0 (res_main_v37 V0) = row 0 (offers (X V0)) := offerAt_eq V0 0 _ (v37_eq V0)

theorem v109_eq : res_main_v109 V0 = row 1 (cells (X V0)) := flat_cells V0 1 _ (v78_eq V0)
theorem v186_eq : res_main_v186 V0 = row 1 (cells (X V0)) := flat_cells' V0 1 _ (v78_eq V0)
theorem v271_eq : res_main_v271 V0 = row 1 (cells (X V0)) := flat_cells' V0 1 _ (v78_eq V0)
theorem offer1_eq : offerAt V0 (res_main_v42 V0) = row 1 (offers (X V0)) := offerAt_eq V0 1 _ (v42_eq V0)

theorem v123_eq : res_main_v123 V0 = row 2 (cells (X V0)) := flat_cells V0 2 _ (v81_eq V0)
theorem v189_eq : res_main_v189 V0 = row 2 (cells (X V0)) := flat_cells' V0 2 _ (v81_eq V0)
theorem v296_eq : res_main_v296 V0 = row 2 (cells (X V0)) := flat_cells' V0 2 _ (v81_eq V0)
theorem offer2_eq : offerAt V0 (res_main_v47 V0) = row 2 (offers (X V0)) := offerAt_eq V0 2 _ (v47_eq V0)

theorem v137_eq : res_main_v137 V0 = row 3 (cells (X V0)) := flat_cells V0 3 _ (v84_eq V0)
theorem v192_eq : res_main_v192 V0 = row 3 (cells (X V0)) := flat_cells' V0 3 _ (v84_eq V0)
theorem v321_eq : res_main_v321 V0 = row 3 (cells (X V0)) := flat_cells' V0 3 _ (v84_eq V0)
theorem offer3_eq : offerAt V0 (res_main_v52 V0) = row 3 (offers (X V0)) := offerAt_eq V0 3 _ (v52_eq V0)

end Cert.ReferenceIdeal.Read
-- ==== Proof.RGiven.lean ====
module

public import proofs.«01_k».proof.Proof.RFlat
public import proofs.«01_k».proof.Proof.Given

@[expose] public section

/-! The reference's largest offers and what it gives each corner, in the splat's terms. -/

set_option maxRecDepth 16384

noncomputable section

namespace Cert.ReferenceIdeal.Read

open Cert.ReferenceIdeal Cert.ReferenceIdeal.Gen Cert.ReferenceIdeal.Value
open Idealize.ShloMosaic Idealize.ShloMosaic.TcCoe Idealize.ShloMosaic.Tactic
open Cert.Splat
open Cert.KernelIdeal.Host (row cellAt take_ap row_cells col raise largest)

variable (V0 : Valuation τ sig (Elt Ideal))

/-- Words turned to numbers in between two layouts are the words' numbers. -/
theorem numbers (D : IVec S294912 32) : (shapeCast S294912 (sitofp .f32 (shapeCast S2x1x384x384 D shapeCasts_S294912_S2x1x384x384) : FVec Ideal S2x1x384x384 .f32)
    shapeCasts_S2x1x384x384_S294912 : FVec Ideal S294912 .f32) = fun p => FloatOps.sitofp (F := Ideal) .f32 (D p) := by
  have h : shapeCast S294912 (shapeCast S2x1x384x384 D shapeCasts_S294912_S2x1x384x384) shapeCasts_S2x1x384x384_S294912 = D :=
    shapeCast_shapeCast D _ _
  funext p
  exact congrArg (FloatOps.sitofp (F := Ideal) .f32) (congrFun h p)

/-- The cell of the pixel at a flat position. -/
theorem cellAt_pix (Y : FVec Ideal SFlow .f32) (k : Fin 4) (b : Fin 2) (y x : Fin 384) (h) :
    cellAt Y k (ix1 ⟨b.val * 147456 + y.val * 384 + x.val, h⟩) = ⟨cellN Y b y x k, cellN_lt ..⟩ := by
  have hy := y.isLt
  have hx := x.isLt
  have e0 : (b.val * 147456 + y.val * 384 + x.val) / 147456 = b.val := by omega
  have e1 : (b.val * 147456 + y.val * 384 + x.val) / 384 % 384 = y.val := by omega
  have e2 : (b.val * 147456 + y.val * 384 + x.val) % 384 = x.val := by omega
  unfold cellAt
  congr 2 <;> exact Fin.ext (by assumption)

/-- The reference's largest offers. -/
def mostAt : IVec S294912 32 :=
  raise (raise (raise (raise (broadcastInDim S294912 ![] bcast_S_S294912 (constantI S_ 32 0#32)) (res_main_v95 V0) (offerAt V0 (res_main_v37 V0)))
    (res_main_v109 V0) (offerAt V0 (res_main_v42 V0))) (res_main_v123 V0) (offerAt V0 (res_main_v47 V0))) (res_main_v137 V0) (offerAt V0 (res_main_v52 V0))

theorem mostAt_most : mostAt V0 = most (X V0) := by
  unfold mostAt
  rw [v95_eq, v109_eq, v123_eq, v137_eq, offer0_eq, offer1_eq, offer2_eq, offer3_eq]
  unfold most largest
  rfl

theorem v182_eq : res_main_v182 V0 = fun p => FloatOps.sitofp (F := Ideal) .f32 (most (X V0) p) := by
  have h := numbers (mostAt V0)
  rw [← mostAt_most]
  unfold mostAt at h ⊢
  exact h

/-- A look-up in the largest offers, as numbers. -/
theorem look (k : Fin 4) (f : S294912.Idx → EReal) : select (Host.reduce IntOp.andi
      (andi (cmpi .sge (col (row k (cells (X V0)))) (broadcastInDim S294912x1 ![] bcast_S_S294912x1 (constantI S_ 32 0#32)))
        (cmpi .sle (col (row k (cells (X V0)))) (broadcastInDim S294912x1 ![0, 1] bcast_S1x1_S294912x1_0_1
          (broadcastInDim S1x1 ![1] bcast_S1_S1x1_1 (constantI S1 32 294911#32)))))
      (constantI S_ 1 1#1) reducesTo_S294912x1_S294912_d1 h_S_)
    (Host.gather gather_S294912_S294912x1_S294912_n_0_n_n_0_1_1 (res_main_v182 V0) (col (row k (cells (X V0))))) f
    = fun p => FloatOps.sitofp (F := Ideal) .f32 (most (X V0) (ix1 (cellAt (X V0) k p))) := by
  rw [v182_eq]
  funext p
  obtain ⟨p, rfl⟩ : ∃ q, p = ix1 q := ⟨_, eq_ix1 p⟩
  exact take_ap (fun p => FloatOps.sitofp (F := Ideal) .f32 (most (X V0) p)) _ _ (row_cells (X V0) k) f p

/-- The two forms of the gate. -/
theorem gate_word (k : Fin 4) (b : Fin 2) (y x : Fin 384) (s : EReal) (hs : s = share (X V0) b y x k) :
    IntOp.andi (IntOp.andi (FloatOps.cmpf (F := Ideal) (φ := .f32) .oge s (Ideal.ofBits .f32 0x3E800000#32))
      (FloatOps.cmpf (F := Ideal) (φ := .f32) .ole (FloatOps.sitofp (F := Ideal) .f32 (most (X V0) (ix1 ⟨cellN (X V0) b y x k, cellN_lt ..⟩))
        - FloatOps.sitofp (F := Ideal) .f32 (len (X V0) b y x)) (Ideal.ofBits .f32 0x41C80000#32))) (valid (X V0) b y x)
      = IntOp.andi (act (X V0) b y x k) (near (X V0) b y x k) := by
  rw [threshold _ _ (most_nonneg ..) (len_nonneg ..), hs]
  unfold act near IntOp.andi
  rw [BitVec.and_assoc, BitVec.and_assoc, BitVec.and_comm (valid _ _ _ _)]

/-- Where a corner is given its share, as the reference tests it. -/
theorem gate_eq (k : Fin 4) (s : FVec Ideal S2x384x384 .f32) (hs : s = arr (fun b y x => share (X V0) b y x k)) :
    (andi (andi (cmpf .oge (broadcastInDim S2x1x384x384 ![0, 2, 3] bcast_S2x384x384_S2x1x384x384_0_2_3 s)
        (broadcastInDim S2x1x384x384 ![] bcast_S_S2x1x384x384 (constant S_ .f32 0x3E800000#32)))
      (cmpf .ole (subf (shapeCast S2x1x384x384 (fun p => FloatOps.sitofp (F := Ideal) .f32 (most (X V0) (ix1 (cellAt (X V0) k p)))
          : FVec Ideal S294912 .f32) shapeCasts_S294912_S2x1x384x384) (sitofp .f32 (res_main_v151 V0)))
        (broadcastInDim S2x1x384x384 ![] bcast_S_S2x1x384x384 (constant S_ .f32 0x41C80000#32)))) (res_main_v195 V0) : IVec S2x1x384x384 1)
    = fun j => IntOp.andi (act (X V0) (j 0) (j 2) (j 3) k) (near (X V0) (j 0) (j 2) (j 3) k) := by
  unfold res_main_v195 res_main_v151
  rw [hs, v72_eq, v24_eq]
  funext j
  idx_vars j
  clean_types
  pointwise
  rw [cellAt_pix]
  exact gate_word V0 k j0 j2 j3 _ rfl

theorem v203_eq : res_main_v203 V0 = fun j => IntOp.andi (act (X V0) (j 0) (j 2) (j 3) 0) (near (X V0) (j 0) (j 2) (j 3) 0) := by
  unfold res_main_v203 res_main_call8_v5 res_main_v147
  rw [v183_eq, look V0 0]
  exact gate_eq V0 0 _ (v37_eq V0)

theorem v211_eq : res_main_v211 V0 = fun j => IntOp.andi (act (X V0) (j 0) (j 2) (j 3) 1) (near (X V0) (j 0) (j 2) (j 3) 1) := by
  unfold res_main_v211 res_main_call9_v5 res_main_v148
  rw [v186_eq, look V0 1]
  exact gate_eq V0 1 _ (v42_eq V0)

theorem v219_eq : res_main_v219 V0 = fun j => IntOp.andi (act (X V0) (j 0) (j 2) (j 3) 2) (near (X V0) (j 0) (j 2) (j 3) 2) := by
  unfold res_main_v219 res_main_call10_v5 res_main_v149
  rw [v189_eq, look V0 2]
  exact gate_eq V0 2 _ (v47_eq V0)

theorem v227_eq : res_main_v227 V0 = fun j => IntOp.andi (act (X V0) (j 0) (j 2) (j 3) 3) (near (X V0) (j 0) (j 2) (j 3) 3) := by
  unfold res_main_v227 res_main_call11_v5 res_main_v150
  rw [v192_eq, look V0 3]
  exact gate_eq V0 3 _ (v52_eq V0)

end Cert.ReferenceIdeal.Read
-- ==== Proof.Resum.lean ====
module

public import proofs.«01_k».proof.Proof.Cells
public import proofs.«01_k».proof.Proof.Gen.ReferenceIdeal.Run

@[expose] public section

/-! The weighted pixels are added up by rows of channels in the kernel and one number at a time in the reference.
    Both orders add the same numbers to the same places. -/

set_option maxRecDepth 16384

noncomputable section

namespace Cert.Splat

open Idealize.ShloMosaic Idealize.ShloMosaic.Tactic
open Idealize.ShloMosaic.Routing (shape2)

/-- An update of a row-wise sum lands at its own channel of the row its index word, read signed, names. -/
theorem row_lands {R C w : ℕ} (d : ScatterDims (shape2 R C) (shape2 R 1) (shape2 R C)) (huw : d.updateWindowDims = [1])
    (hiw : d.insertedWindowDims = [0]) (hsd : d.scatterDimsToOperandDims = [0]) (hivd : d.indexVectorDim = 1)
    (idx : IVec (shape2 R 1) w) (p r : Fin R) (c e : Fin C) :
    d.resultIdx? (ix2 p c) idx = some (ix2 r e) ↔ (idx (ix2 p 0)).toInt = r.val ∧ c.val = e.val := by
  have hm : (0 : Fin 2) ∈ d.scatterDimsToOperandDims := by rw [hsd]; exact List.mem_singleton.2 rfl
  have hkept : d.sKept = [1] := by
    show (shape2 R C).kept d.insertedWindowDims = _
    rw [hiw]
    rfl
  have hu : d.uScatter = [0] := by
    show (shape2 R C).kept d.updateWindowDims = _
    rw [huw]
    rfl
  have hk : d.siKept = [0] := by
    show (List.finRange 2).filter (fun x => decide (x.val ≠ d.indexVectorDim)) = _
    rw [hivd]
    rfl
  have only : ∀ (l : List (Fin 2)) (a : Fin 2) (n : ℕ) (h : n < l.length), l = [a] → l[n]'h = a := by
    intro l a n h hl
    subst hl
    simp
  have w0 : d.window (ix2 p c) 0 = 0 := by
    unfold ScatterDims.window
    rw [dif_neg (by rw [hkept]; simp)]
  have w1 : d.window (ix2 p c) 1 = c.val := by
    unfold ScatterDims.window
    rw [dif_pos (by rw [hkept]; simp), only _ 1 _ _ huw]
    rfl
  have s0 : d.start (ix2 p c) idx 0 = (idx (ix2 p 0)).toInt := by
    unfold ScatterDims.start
    rw [dif_pos hm]
    congr 2
    funext q
    apply Fin.ext
    match q with
    | ⟨0, _⟩ =>
      unfold ScatterDims.siIdx
      rw [dif_neg (by rw [hivd]; exact Nat.zero_ne_one)]
      unfold ScatterDims.siCoord
      simp only [Fin.val_cast]
      rw [only _ 0 _ _ hu]
      rfl
    | ⟨1, _⟩ =>
      unfold ScatterDims.siIdx
      rw [dif_pos (by rw [hivd])]
      show List.idxOf (0 : Fin 2) d.scatterDimsToOperandDims = 0
      rw [hsd]
      rfl
  have s1 : d.start (ix2 p c) idx 1 = 0 := by
    unfold ScatterDims.start
    rw [dif_neg (by rw [hsd]; simp)]
  refine (Routing.resultIdx?_ix2 d _ idx r e).trans ?_
  rw [w0, w1, s0, s1]
  omega

/-- A summing scatter, place by place. -/
theorem scatterAdd_ap {s si u : Shape} (d : ScatterDims s si u) (a : FVec Ideal s .f32) (idx : IVec si 32) (upd : FVec Ideal u .f32) (i : s.Idx) :
    Host.scatterAdd d a idx upd i = a i + ∑ j ∈ Finset.univ.filter (fun j => d.resultIdx? j idx = some i), upd j := rfl

/-- Where a pixel's channel stands when the numbers of both images are laid out flat, channel by channel. -/
def spot (p : Fin 294912) (c : Fin 96) : Fin 28311552 :=
  ⟨(p.val / 147456 * 96 + c.val) * 147456 + p.val % 147456, by have := p.isLt; have := c.isLt; omega⟩

theorem spot_inj {p r : Fin 294912} {c e : Fin 96} (h : spot p c = spot r e) : p = r ∧ c = e := by
  have h := congrArg Fin.val h
  simp only [spot] at h
  have := p.isLt
  have := r.isLt
  have := c.isLt
  have := e.isLt
  exact ⟨Fin.ext (by omega), Fin.ext (by omega)⟩

open Cert.ReferenceIdeal in
/-- Every place of the flat layout is one pixel's one channel. -/
def spots : Cert.KernelIdeal.S294912x96.Idx ≃ S28311552.Idx where
  toFun j := ix1 (spot (j 0) (j 1))
  invFun u := ix2 (⟨(u 0).val / 14155776 * 147456 + (u 0).val % 147456, by have := (u 0).isLt; simp at this; omega⟩ : Fin 294912)
    (⟨(u 0).val / 147456 % 96, by omega⟩ : Fin 96)
  left_inv j := by
    obtain ⟨p, c, rfl⟩ : ∃ p c, j = ix2 p c := ⟨_, _, eq_ix2 j⟩
    have := p.isLt
    have := c.isLt
    have h0 : ((p.val / 147456 * 96 + c.val) * 147456 + p.val % 147456) / 14155776 * 147456
      + ((p.val / 147456 * 96 + c.val) * 147456 + p.val % 147456) % 147456 = p.val := by omega
    have h1 : ((p.val / 147456 * 96 + c.val) * 147456 + p.val % 147456) / 147456 % 96 = c.val := by omega
    exact congrArg₂ ix2 (Fin.ext h0) (Fin.ext h1)
  right_inv u := by
    obtain ⟨n, rfl⟩ : ∃ n, u = ix1 n := ⟨_, eq_ix1 u⟩
    have := n.isLt
    refine congrArg ix1 (Fin.ext ?_)
    show ((n.val / 14155776 * 147456 + n.val % 147456) / 147456 * 96 + n.val / 147456 % 96) * 147456
      + (n.val / 14155776 * 147456 + n.val % 147456) % 147456 = n.val
    omega

section Round

open Cert.KernelIdeal Cert.KernelIdeal.Host

/-- Flat places as a column of scatter indices, a negative one counted from the end. -/
abbrev colAt (i : IVec Cert.ReferenceIdeal.S28311552 32) : IVec Cert.ReferenceIdeal.S28311552x1 32 :=
  broadcastInDim Cert.ReferenceIdeal.S28311552x1 ![0] Cert.ReferenceIdeal.Gen.bcast_S28311552_S28311552x1_0
    (select (cmpi .slt i (broadcastInDim Cert.ReferenceIdeal.S28311552 ![] Cert.ReferenceIdeal.Gen.bcast_S_S28311552 (constantI Cert.ReferenceIdeal.S_ 32 0#32)))
      (addi i (broadcastInDim Cert.ReferenceIdeal.S28311552 ![] Cert.ReferenceIdeal.Gen.bcast_S_S28311552 (constantI Cert.ReferenceIdeal.S_ 32 28311552#32))) i)

/-- One round of the reference's sum of weighted numbers. -/
abbrev addAt (a : FVec Ideal Cert.ReferenceIdeal.S28311552 .f32) (i : IVec Cert.ReferenceIdeal.S28311552 32)
    (u : FVec Ideal Cert.ReferenceIdeal.S28311552 .f32) : FVec Ideal Cert.ReferenceIdeal.S28311552 .f32 :=
  Host.scatterAdd Cert.ReferenceIdeal.scatter_S28311552_S28311552x1_S28311552_n_0_0_1 a (colAt i) u

theorem colAt_ap (i : IVec Cert.ReferenceIdeal.S28311552 32) (u : Fin 28311552) {k : ℕ} (hk : k < 28311552) (h : i (ix1 u) = BitVec.ofNat 32 k) :
    colAt i (ix2 u 0) = BitVec.ofNat 32 k := by
  rw [← h]
  pointwise
  exact Routing.wrap_of_lt _ _ (by rw [h]; simp; omega)

/-- One round adds the same numbers at the same places either way. -/
theorem round {aK uK : FVec Ideal S294912x96 .f32} {iK : IVec S294912 32} {aR uR : FVec Ideal Cert.ReferenceIdeal.S28311552 .f32}
    {iR : IVec Cert.ReferenceIdeal.S28311552 32} {n : Fin 294912 → Fin 294912}
    (ha : ∀ p c, aK (ix2 p c) = aR (ix1 (spot p c))) (hu : ∀ p c, uK (ix2 p c) = uR (ix1 (spot p c)))
    (hK : ∀ p, iK (ix1 p) = BitVec.ofNat 32 (n p).val) (hR : ∀ p c, iR (ix1 (spot p c)) = BitVec.ofNat 32 (spot (n p) c).val)
    (r : Fin 294912) (e : Fin 96) :
    Host.scatterAdd scatter_S294912x96_S294912x1_S294912x96_1_0_0_1 aK (col iK) uK (ix2 r e) = addAt aR iR uR (ix1 (spot r e)) := by
  refine (scatterAdd_ap ..).trans (Eq.trans ?_ (scatterAdd_ap ..).symm)
  rw [ha]
  refine congrArg (_ + ·) ?_
  refine Finset.sum_equiv spots (fun j => ?_) (fun j _ => ?_)
  · obtain ⟨p, c, rfl⟩ : ∃ p c, j = ix2 p c := ⟨_, _, eq_ix2 j⟩
    show _ ↔ ix1 (spot p c) ∈ _
    rw [Finset.mem_filter, Finset.mem_filter]
    refine and_congr (by simp) ?_
    have hr := (n p).isLt
    have hs := (spot (n p) c).isLt
    refine (row_lands (R := 294912) (C := 96) _ rfl rfl rfl rfl (col iK) p r c e).trans (Iff.trans ?_
      (Routing.scatter_lands_signed (N := 28311552) _ rfl rfl rfl (colAt iR) (spot p c) (spot r e)).symm)
    show (col iK (ix2 p 0)).toInt = _ ∧ _ ↔ (colAt iR (ix2 (spot p c) 0)).toInt = _
    rw [col_ap iK p hr (hK p), colAt_ap iR (spot p c) hs (hR p c), WordCmp.toInt_ofNat_of_lt (w := 32) (by omega),
      WordCmp.toInt_ofNat_of_lt (w := 32) (by omega)]
    constructor
    · rintro ⟨h, h'⟩
      rw [Fin.ext (by exact_mod_cast h : (n p).val = r.val), Fin.ext h']
    · intro h
      obtain ⟨h1, h2⟩ := spot_inj (Fin.ext (by exact_mod_cast h) : spot (n p) c = spot r e)
      rw [h1, h2]
      exact ⟨rfl, rfl⟩
  · obtain ⟨p, c, rfl⟩ : ∃ p c, j = ix2 p c := ⟨_, _, eq_ix2 j⟩
    exact hu p c

end Round

end Cert.Splat
-- ==== Proof.RSum.lean ====
module

public import proofs.«01_k».proof.Proof.RGiven
public import proofs.«01_k».proof.Proof.KOut
public import proofs.«01_k».proof.Proof.Resum

@[expose] public section

/-! The reference's sums, round by round, in the splat's terms. -/

set_option maxRecDepth 16384

noncomputable section

namespace Cert.ReferenceIdeal.Read

open Cert.ReferenceIdeal Cert.ReferenceIdeal.Gen Cert.ReferenceIdeal.Value
open Idealize.ShloMosaic Idealize.ShloMosaic.TcCoe Idealize.ShloMosaic.Tactic
open Cert.Splat
open Cert.KernelIdeal.Host (row row_cells cellAt col largest pixels image total totalRows addRows)

variable (V0 : Valuation τ sig (Elt Ideal))

/-- The place each channel of each pixel is sent to, at a flat place. -/
theorem place_ap (k : Fin 4) (A : IVec S2x384x384 32) (hA : A = arr (fun b y x => off (X V0) b y x k)) (u : Fin 28311552) :
    (shapeCast S28311552 (addi (broadcastInDim S2x96x384x384 ![0, 1, 2, 3] bcast_S2x96x1x1_S2x96x384x384_0_1_2_3 (res_main_v155 V0))
      (broadcastInDim S2x96x384x384 ![0, 1, 2, 3] bcast_S2x1x384x384_S2x96x384x384_0_1_2_3
        (broadcastInDim S2x1x384x384 ![0, 2, 3] bcast_S2x384x384_S2x1x384x384_0_2_3 A))) shapeCasts_S2x96x384x384_S28311552 : IVec S28311552 32) (ix1 u)
      = IntOp.addi (IntOp.muli (BitVec.ofNat 32 (u.val / 147456)) 147456#32)
        (off (X V0) (⟨u.val / 14155776, by omega⟩ : Fin 2) (⟨u.val / 384 % 384, by omega⟩ : Fin 384) (⟨u.val % 384, by omega⟩ : Fin 384) k) := by
  subst hA
  unfold res_main_v155
  clean_types
  pointwise
  show IntOp.addi (IntOp.muli (BitVec.ofNat 32 _) _) _ = _
  rw [show u.val / 14155776 * 96 + u.val / 147456 % 96 = u.val / 147456 by omega]
  rfl

/-- The weighted numbers of one round. -/
theorem weighed (k : Fin 4) (s : FVec Ideal S2x384x384 .f32) (g : IVec S2x1x384x384 1)
    (hs : s = arr (fun b y x => share (X V0) b y x k))
    (hg : g = fun j => IntOp.andi (act (X V0) (j 0) (j 2) (j 3) k) (near (X V0) (j 0) (j 2) (j 3) k))
    (A : FVec Ideal S2x96x384x384 .f32) (u : Fin 28311552) :
    (shapeCast S28311552 (mulf (mulf A (broadcastInDim S2x96x384x384 ![0, 1, 2, 3] bcast_S2x1x384x384_S2x96x384x384_0_1_2_3
        (broadcastInDim S2x1x384x384 ![0, 2, 3] bcast_S2x384x384_S2x1x384x384_0_2_3 s)))
      (broadcastInDim S2x96x384x384 ![0, 1, 2, 3] bcast_S2x1x384x384_S2x96x384x384_0_1_2_3 (uitofp .f32 g)))
      shapeCasts_S2x96x384x384_S28311552 : FVec Ideal S28311552 .f32) (ix1 u)
      = A (ix4 (⟨u.val / 14155776, by omega⟩ : Fin 2) (⟨u.val / 147456 % 96, by omega⟩ : Fin 96) (⟨u.val / 384 % 384, by omega⟩ : Fin 384) (⟨u.val % 384, by omega⟩ : Fin 384))
       * given (X V0) (⟨u.val / 14155776, by omega⟩ : Fin 2) (⟨u.val / 384 % 384, by omega⟩ : Fin 384) (⟨u.val % 384, by omega⟩ : Fin 384) k := by
  subst hs hg
  clean_types
  pointwise
  exact mul_assoc _ _ _

theorem rows_ap (A : FVec Ideal S2x96x384x384 .f32) (s : FVec Ideal S294912 .f32) (p : Fin 294912) (c : Fin 96) :
    mulf (pixels A) (broadcastInDim KernelIdeal.S294912x96 ![0, 1] KernelIdeal.Gen.bcast_S294912x1_S294912x96_0_1 (broadcastInDim S294912x1 ![0] bcast_S294912_S294912x1_0 s)) (ix2 p c)
    = A (ix4 (⟨p.val / 147456, by omega⟩ : Fin 2) c (⟨p.val / 384 % 384, by omega⟩ : Fin 384) (⟨p.val % 384, by omega⟩ : Fin 384)) * s (ix1 p) := by
  unfold pixels
  clean_types
  pointwise
  have h1 : p.val % 147456 / 384 = p.val / 384 % 384 := by omega
  have h2 : p.val % 147456 % 384 = p.val % 384 := by omega
  simp only [h1, h2]

theorem weights (k : Fin 4) (s : FVec Ideal S2x384x384 .f32) (g : IVec S2x1x384x384 1)
    (hs : s = arr (fun b y x => share (X V0) b y x k))
    (hg : g = fun j => IntOp.andi (act (X V0) (j 0) (j 2) (j 3) k) (near (X V0) (j 0) (j 2) (j 3) k)) :
    (shapeCast S294912 (mulf (broadcastInDim S2x1x384x384 ![0, 2, 3] bcast_S2x384x384_S2x1x384x384_0_2_3 s) (uitofp .f32 g))
      shapeCasts_S2x1x384x384_S294912 : FVec Ideal S294912 .f32) = handed (X V0) k := by
  subst hs hg
  funext j
  idx_vars j
  simp only [flat]
  clean_types
  pointwise
  rfl

/-- The coordinates of a channel of a pixel, read off its flat place. -/
theorem spot_coords (p : Fin 294912) (c : Fin 96) :
    (spot p c).val / 14155776 = p.val / 147456 ∧ (spot p c).val / 147456 % 96 = c.val ∧ (spot p c).val / 384 % 384 = p.val / 384 % 384
      ∧ (spot p c).val % 384 = p.val % 384 ∧ (spot p c).val / 147456 = p.val / 147456 * 96 + c.val := by
  have := p.isLt
  have := c.isLt
  unfold spot
  refine ⟨?_, ?_, ?_, ?_, ?_⟩ <;> simp only [] <;> omega

/-- A channel of a pixel is sent to the same channel of the pixel's cell. -/
theorem place_spot (k : Fin 4) (A : IVec S2x384x384 32) (hA : A = arr (fun b y x => off (X V0) b y x k)) (p : Fin 294912) (c : Fin 96) :
    (shapeCast S28311552 (addi (broadcastInDim S2x96x384x384 ![0, 1, 2, 3] bcast_S2x96x1x1_S2x96x384x384_0_1_2_3 (res_main_v155 V0))
      (broadcastInDim S2x96x384x384 ![0, 1, 2, 3] bcast_S2x1x384x384_S2x96x384x384_0_1_2_3
        (broadcastInDim S2x1x384x384 ![0, 2, 3] bcast_S2x384x384_S2x1x384x384_0_2_3 A))) shapeCasts_S2x96x384x384_S28311552 : IVec S28311552 32) (ix1 (spot p c))
      = BitVec.ofNat 32 (spot (cellAt (X V0) k (ix1 p)) c).val := by
  obtain ⟨h0, -, h2, h3, h4⟩ := spot_coords p c
  rw [place_ap V0 k A hA]
  simp only [h0, h2, h3, h4]
  unfold cellAt
  rw [off_eq]
  show IntOp.addi _ (BitVec.ofNat 32 (offN (X V0) (⟨p.val / 147456, _⟩ : Fin 2) (⟨p.val / 384 % 384, _⟩ : Fin 384) (⟨p.val % 384, _⟩ : Fin 384) k))
    = BitVec.ofNat 32 ((cellN (X V0) (⟨p.val / 147456, _⟩ : Fin 2) (⟨p.val / 384 % 384, _⟩ : Fin 384) (⟨p.val % 384, _⟩ : Fin 384) k / 147456 * 96 + c.val) * 147456
      + cellN (X V0) (⟨p.val / 147456, _⟩ : Fin 2) (⟨p.val / 384 % 384, _⟩ : Fin 384) (⟨p.val % 384, _⟩ : Fin 384) k % 147456)
  unfold cellN
  have hl := offN_lt (X V0) (⟨p.val / 147456, by omega⟩ : Fin 2) (⟨p.val / 384 % 384, by omega⟩ : Fin 384) (⟨p.val % 384, by omega⟩ : Fin 384) k
  generalize offN (X V0) _ _ _ k = o at hl ⊢
  have := p.isLt
  have := c.isLt
  rw [show ((p.val / 147456) * 147456 + o) / 147456 = p.val / 147456 by omega, show ((p.val / 147456) * 147456 + o) % 147456 = o by omega]
  apply BitVec.eq_of_toNat_eq
  unfold IntOp.addi IntOp.muli
  simp

/-- The numbers of one round are the weighted pixel rows' numbers. -/
theorem weighed_spot (k : Fin 4) (s : FVec Ideal S2x384x384 .f32) (g : IVec S2x1x384x384 1)
    (hs : s = arr (fun b y x => share (X V0) b y x k))
    (hg : g = fun j => IntOp.andi (act (X V0) (j 0) (j 2) (j 3) k) (near (X V0) (j 0) (j 2) (j 3) k))
    (A : FVec Ideal S2x96x384x384 .f32) (p : Fin 294912) (c : Fin 96) :
    mulf (pixels A) (broadcastInDim KernelIdeal.S294912x96 ![0, 1] KernelIdeal.Gen.bcast_S294912x1_S294912x96_0_1
      (broadcastInDim S294912x1 ![0] bcast_S294912_S294912x1_0 (handed (X V0) k))) (ix2 p c)
    = (shapeCast S28311552 (mulf (mulf A (broadcastInDim S2x96x384x384 ![0, 1, 2, 3] bcast_S2x1x384x384_S2x96x384x384_0_1_2_3
        (broadcastInDim S2x1x384x384 ![0, 2, 3] bcast_S2x384x384_S2x1x384x384_0_2_3 s)))
      (broadcastInDim S2x96x384x384 ![0, 1, 2, 3] bcast_S2x1x384x384_S2x96x384x384_0_1_2_3 (uitofp .f32 g)))
      shapeCasts_S2x96x384x384_S28311552 : FVec Ideal S28311552 .f32) (ix1 (spot p c)) := by
  obtain ⟨h0, h1, h2, h3, -⟩ := spot_coords p c
  rw [rows_ap, weighed V0 k s g hs hg]
  simp only [h0, h1, h2, h3]
  rfl

/-- The reference's sum of one round's weighted numbers. -/
abbrev addWeighed (A : FVec Ideal S2x96x384x384 .f32) (a : FVec Ideal S28311552 .f32) (i : IVec S28311552 32)
    (s : FVec Ideal S2x1x384x384 .f32) (g : IVec S2x1x384x384 1) : FVec Ideal S28311552 .f32 :=
  addAt a i (shapeCast S28311552 (mulf (mulf A (broadcastInDim S2x96x384x384 ![0, 1, 2, 3] bcast_S2x1x384x384_S2x96x384x384_0_1_2_3 s))
      (broadcastInDim S2x96x384x384 ![0, 1, 2, 3] bcast_S2x1x384x384_S2x96x384x384_0_1_2_3 (uitofp .f32 g))) shapeCasts_S2x96x384x384_S28311552)

/-- The reference's weighted numbers added up. -/
def totalAt (A : FVec Ideal S2x96x384x384 .f32) : FVec Ideal S28311552 .f32 :=
  addWeighed A (addWeighed A (addWeighed A (addWeighed A
    (broadcastInDim S28311552 ![] bcast_S_S28311552 (constant S_ .f32 0x00000000#32))
    (res_main_v237 V0) (res_main_v147 V0) (res_main_v203 V0)) (res_main_v262 V0) (res_main_v148 V0) (res_main_v211 V0))
    (res_main_v287 V0) (res_main_v149 V0) (res_main_v219 V0)) (res_main_v312 V0) (res_main_v150 V0) (res_main_v227 V0)

theorem totalRows_spot (A : FVec Ideal S2x96x384x384 .f32) (p : Fin 294912) (c : Fin 96) :
    totalRows (cells (X V0)) (handed (X V0)) A (ix2 p c) = totalAt V0 A (ix1 (spot p c)) := by
  unfold totalRows totalAt addRows
  refine round (round (round (round (fun _ _ => rfl)
    (weighed_spot V0 0 _ _ (v37_eq V0) (v203_eq V0) A) (row_cells (X V0) 0) (place_spot V0 0 _ (v75_eq V0)))
    (weighed_spot V0 1 _ _ (v42_eq V0) (v211_eq V0) A) (row_cells (X V0) 1) (place_spot V0 1 _ (v78_eq V0)))
    (weighed_spot V0 2 _ _ (v47_eq V0) (v219_eq V0) A) (row_cells (X V0) 2) (place_spot V0 2 _ (v81_eq V0)))
    (weighed_spot V0 3 _ _ (v52_eq V0) (v227_eq V0) A) (row_cells (X V0) 3) (place_spot V0 3 _ (v84_eq V0)) p c

/-- The two ways of adding the weighted pixels up give the same image. -/
theorem totalAt_eq (A : FVec Ideal S2x96x384x384 .f32) :
    shapeCast S2x96x384x384 (totalAt V0 A) shapeCasts_S28311552_S2x96x384x384 = outSum A (X V0) := by
  unfold outSum image
  funext j
  idx_vars j
  clean_types
  pointwise
  refine Eq.trans (congrArg (fun n => totalAt V0 A (ix1 n)) (Fin.ext ?_)) (totalRows_spot V0 A _ j1).symm
  have := j2.isLt
  have := j3.isLt
  show j0.val * 14155776 + j1.val * 147456 + j2.val * 384 + j3.val
    = ((j0.val * 147456 + (j2.val * 384 + j3.val)) / 147456 * 96 + j1.val) * 147456 + (j0.val * 147456 + (j2.val * 384 + j3.val)) % 147456
  omega

/-- The reference's total share at each pixel, a channel's worth. -/
theorem v333_eq : res_main_v333 V0 = outWeight (X V0) := by
  unfold res_main_v333 res_main_v147 res_main_v148 res_main_v149 res_main_v150
  rw [v246_eq, v271_eq, v296_eq, v321_eq, weights V0 0 _ _ (v37_eq V0) (v203_eq V0), weights V0 1 _ _ (v42_eq V0) (v211_eq V0),
    weights V0 2 _ _ (v47_eq V0) (v219_eq V0), weights V0 3 _ _ (v52_eq V0) (v227_eq V0)]
  unfold outWeight total
  rfl

/-- The image over its weight. -/
theorem image_eq (A : FVec Ideal S2x96x384x384 .f32) (B : FVec Ideal S2x96x384x384 .f32) (hB : B = outSum A (X V0)) :
    Host.divf B (broadcastInDim S2x96x384x384 ![0, 1, 2, 3] bcast_S2x1x384x384_S2x96x384x384_0_1_2_3
      (maximumf (res_main_v333 V0) (broadcastInDim S2x1x384x384 ![] bcast_S_S2x1x384x384 (constant S_ .f32 0x358637BD#32)))) = outImage A (X V0) := by
  rw [v333_eq, hB]
  funext j
  idx_vars j
  unfold outImage
  clean_types
  pointwise

theorem holes_eq : select (cmpf .olt (res_main_v333 V0) (broadcastInDim S2x1x384x384 ![] bcast_S_S2x1x384x384 (constant S_ .f32 0x33D6BF95#32)))
    (broadcastInDim S2x1x384x384 ![] bcast_S_S2x1x384x384 (constant S_ .f32 0x3F800000#32))
    (broadcastInDim S2x1x384x384 ![] bcast_S_S2x1x384x384 (constant S_ .f32 0x00000000#32)) = outHoles (X V0) := by
  rw [v333_eq]
  rfl

end Cert.ReferenceIdeal.Read
-- ==== Proof.ROut.lean ====
module

public import proofs.«01_k».proof.Proof.RSum

@[expose] public section

/-! The reference's five results, in terms of its two arguments: the same five the kernel leaves. -/

set_option maxRecDepth 16384

noncomputable section

namespace Cert.ReferenceIdeal.Read

open Cert.ReferenceIdeal Cert.ReferenceIdeal.Gen Cert.ReferenceIdeal.Value
open Idealize.ShloMosaic Idealize.ShloMosaic.TcCoe Idealize.ShloMosaic.Tactic Idealize.SL.Sem
open Cert.Splat

section Terms

variable (V0 : Valuation τ sig (Elt Ideal))

theorem mostAt_eq : shapeCast S2x1x384x384 (mostAt V0) shapeCasts_S294912_S2x1x384x384 = outMost (X V0) := by
  rw [mostAt_most]
  unfold outMost
  rfl

end Terms

variable (m : (ℓ : Loc nD τ sig) → Buf (Elt Ideal) ℓ) (ρ : Dev nD → PrngReg)

/-- The image, as launched. -/
abbrev img (c : Dev nD) : FVec Ideal S2x96x384x384 .f32 := m ((c.tc : Thread nD τ).loc main_arg0)
/-- The flow, as launched. -/
abbrev flo (c : Dev nD) : FVec Ideal SFlow .f32 := m ((c.tc : Thread nD τ).loc main_arg1)

set_option maxHeartbeats 2000000 in
/-- Every execution of the reference ends with the five results and its arguments as they were. -/
theorem ends : θ_run defs (onTc (τ := τ) (main (F := Ideal))) ⟨m, fun _ => 0, ρ⟩ fun r => ∀ c : Dev nD,
    r.2.mem ((c.tc : Thread nD τ).loc main_v337) = outImage (img m c) (flo m c)
    ∧ r.2.mem ((c.tc : Thread nD τ).loc main_v342) = outHoles (flo m c)
    ∧ r.2.mem ((c.tc : Thread nD τ).loc main_v330) = outSum (img m c) (flo m c)
    ∧ r.2.mem ((c.tc : Thread nD τ).loc main_v146) = outMost (flo m c)
    ∧ r.2.mem ((c.tc : Thread nD τ).loc main_v333) = outWeight (flo m c)
    ∧ r.2.mem ((c.tc : Thread nD τ).loc main_arg0) = m ((c.tc : Thread nD τ).loc main_arg0)
    ∧ r.2.mem ((c.tc : Thread nD τ).loc main_arg1) = m ((c.tc : Thread nD τ).loc main_arg1) := by
  refine (θ_run defs _ _).mono (fun r h c => ?_) (run (F := Ideal) m ρ)
  obtain ⟨h0, h1, h2, h3, h4, h5, h6⟩ := h c
  have e := totalAt_eq (StableHlo.launchContents m c) (img m c)
  have e' := mostAt_eq (StableHlo.launchContents m c)
  unfold totalAt at e
  unfold mostAt at e'
  exact ⟨h0.trans (image_eq _ _ _ e), h1.trans (holes_eq _), h2.trans e, h3.trans e', h4.trans (v333_eq _), h5, h6⟩

end Cert.ReferenceIdeal.Read
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.KRun
public import proofs.«01_k».proof.Proof.KOut
public import proofs.«01_k».proof.Proof.ROut
public import Idealize.ShloMosaic.Adequacy
public import Idealize.ShloMosaic.Init

@[expose] public section

noncomputable section

namespace Cert.Proof

open Idealize.ShloMosaic Idealize.SL.Sem

/-- The plain program's run, read at its arguments; it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => ⟨(h c).2.2.2.2.2.1, (h c).2.2.2.2.2.2⟩,
      Idealize.ShloMosaic.sem_eq_zero_of_no_sems (by decide) r.2⟩)
    (Cert.ReferenceIdeal.Value.run (F := Ideal) m ρ)

/-- The one rewrite: the constant `1/96` is named. -/
theorem preserves : Cert.preserves_Kernel_KernelIdeal :=
  IdealRules.named_const.statement Cert.KernelIdeal.κ "inv_channels" .f32 0x3C2AAAAB#32 ((96⁻¹ : ℝ) : EReal) rfl

section Ends

open Cert.KernelIdeal Cert.KernelIdeal.Gen Idealize.ShloMosaic.TcCoe Cert.Splat

/-- Every execution of the kernel's program ends with the five results and its arguments as they were. -/
theorem ends (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v183_0) = outImage (Host.img m c) (Out.flo m c)
      ∧ r.2.mem ((c.tc : Thread nD τ).loc main_v183_1) = outHoles (Out.flo m c)
      ∧ r.2.mem ((c.tc : Thread nD τ).loc main_v177) = outSum (Host.img m c) (Out.flo m c)
      ∧ r.2.mem ((c.tc : Thread nD τ).loc main_v178) = outMost (Out.flo m c)
      ∧ r.2.mem ((c.tc : Thread nD τ).loc main_v183_2) = outWeight (Out.flo m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨(h c main_v183_0 (by decide)).trans (Out.o0 m ρ c), (h c main_v183_1 (by decide)).trans (Out.o1 m ρ c),
      (h c main_v177 (by decide)).trans (Out.o2 m ρ c), (h c main_v178 (by decide)).trans (Out.o3 m ρ c),
      (h c main_v183_2 (by decide)).trans (Out.o4 m ρ c), (h c main_arg0 (by decide)).trans (W19_main_arg0 m ρ c),
      (h c main_arg1 (by decide)).trans (W19_main_arg1 m ρ c)⟩) (Runs.ends m ρ)

end Ends

/-- From the same arguments both programs end with the same five results. -/
theorem algebraic : Cert.algebraic_KernelIdeal_ReferenceIdeal (hKernelIdeal := Cert.KernelIdeal.Gen.facts)
    (hReferenceIdeal := Cert.ReferenceIdeal.Gen.facts) := fun m ρ m' ρ' _ h => by
  have hi : ∀ c, Cert.ReferenceIdeal.Read.img m' c = Cert.KernelIdeal.Host.img m c := fun c => (h c).1
  have hf : ∀ c, Cert.ReferenceIdeal.Read.flo m' c = Cert.KernelIdeal.Out.flo m c := fun c => (h c).2
  refine ⟨_, _, _, _, _, ends m ρ, (θ_run Cert.ReferenceIdeal.defs _ _).mono (fun r k c => ?_) (Cert.ReferenceIdeal.Read.ends m' ρ')⟩
  obtain ⟨k0, k1, k2, k3, k4, k5, k6⟩ := k c
  rw [hi, hf] at k0 k2
  rw [hf] at k1 k3 k4
  exact ⟨k0, k1, k2, k3, k4, k5, k6⟩

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, preserves, algebraic⟩

end Cert.Proof

end
